-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S4x512x1024 : Shape := ⟨3, ![4, 512, 1024]⟩
abbrev S16 : Shape := ⟨1, ![16]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 2
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .local _ .vmem, ⟨0, _⟩ => ⟨S4x512x1024, .f32⟩
  | .local _ .vmem, ⟨1, _⟩ => ⟨S4x512x1024, .f32⟩
  | .local _ .vmem, ⟨2, _⟩ => ⟨S4x512x1024, .f32⟩
  | .local _ .vmem, ⟨3, _⟩ => ⟨S4x512x1024, .f32⟩
  | .local _ .vmem, ⟨4, _⟩ => ⟨S4x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 3 → Bool
  | ⟨0, _⟩ => true
  | ⟨1, _⟩ => true
  | ⟨2, _⟩ => false
  | _ => false

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  (ofTc nBuf bufTy 3 128 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_10 : BitVec 32 := 16#32
  let v20 : BitVec 32 := Scalar.muli v9 c16_i32_10
  let v21 : BitVec 32 := Scalar.addi c0_i32 v20
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_11 : BitVec 32 := 4#32
  let v22 : BitVec 32 := Scalar.muli v5 c4_i32_11
  let v23 : BitVec 32 := Scalar.addi v21 v22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v24 : BitVec 32 := Scalar.muli v8 c1_i32_12
  let v25 : BitVec 32 := Scalar.addi v23 v24
  v25.toNat
def k0_dev2 (d0 : Dev nD) : Nat :=
  let c0_i32_15 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_14 : BitVec 32 := 16#32
  let v26 : BitVec 32 := Scalar.muli v2 c16_i32_14
  let v27 : BitVec 32 := Scalar.addi c0_i32_15 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_16 : BitVec 32 := 4#32
  let v28 : BitVec 32 := Scalar.muli v13 c4_i32_16
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v30 : BitVec 32 := Scalar.muli v8 c1_i32_17
  let v31 : BitVec 32 := Scalar.addi v29 v30
  v31.toNat
def k0_off1 (d0 : Dev nD) (c0_i32_19 : BitVec 32) : Fin 2 → Nat :=
  let c1_i32_7 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v14 : BitVec 32 := Scalar.addi v2 v5
  let c2_i32_6 : BitVec 32 := 2#32
  let v15 : BitVec 32 := Scalar.remsi v14 c2_i32_6
  let v17 : BitVec 32 := Scalar.subi c1_i32_7 v15
  let c8192_i32_8 : BitVec 32 := 8192#32
  let v18 : BitVec 32 := Scalar.muli v17 c8192_i32_8
  let v32 : BitVec 32 := Scalar.addi v18 c0_i32_19
  let c0_i32_25 : BitVec 32 := 0#32
  ![v32.toNat, 0]
def k0_off2 (d0 : Dev nD) (c0_i32_20 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v14 : BitVec 32 := Scalar.addi v2 v5
  let c2_i32_6 : BitVec 32 := 2#32
  let v15 : BitVec 32 := Scalar.remsi v14 c2_i32_6
  let c8192_i32 : BitVec 32 := 8192#32
  let v16 : BitVec 32 := Scalar.muli v15 c8192_i32
  let v33 : BitVec 32 := Scalar.addi v16 c0_i32_20
  let c0_i32_30 : BitVec 32 := 0#32
  ![v33.toNat, 0]
def k0_dev3 (d0 : Dev nD) : Nat :=
  let c0_i32_73 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_72 : BitVec 32 := 16#32
  let v85 : BitVec 32 := Scalar.muli v9 c16_i32_72
  let v86 : BitVec 32 := Scalar.addi c0_i32_73 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v87 : BitVec 32 := Scalar.muli v5 c4_i32_74
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v89 : BitVec 32 := Scalar.muli v8 c1_i32_75
  let v90 : BitVec 32 := Scalar.addi v88 v89
  v90.toNat
def k0_dev4 (d0 : Dev nD) : Nat :=
  let c0_i32_90 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_89 : BitVec 32 := 16#32
  let v104 : BitVec 32 := Scalar.muli v9 c16_i32_89
  let v105 : BitVec 32 := Scalar.addi c0_i32_90 v104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_91 : BitVec 32 := 4#32
  let v106 : BitVec 32 := Scalar.muli v5 c4_i32_91
  let v107 : BitVec 32 := Scalar.addi v105 v106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v108 : BitVec 32 := Scalar.muli v8 c1_i32_92
  let v109 : BitVec 32 := Scalar.addi v107 v108
  v109.toNat
def k0_dev5 (d0 : Dev nD) : Nat :=
  let c0_i32_124 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_123 : BitVec 32 := 16#32
  let v143 : BitVec 32 := Scalar.muli v9 c16_i32_123
  let v144 : BitVec 32 := Scalar.addi c0_i32_124 v143
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_125 : BitVec 32 := 4#32
  let v145 : BitVec 32 := Scalar.muli v5 c4_i32_125
  let v146 : BitVec 32 := Scalar.addi v144 v145
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_126 : BitVec 32 := 1#32
  let v147 : BitVec 32 := Scalar.muli v8 c1_i32_126
  let v148 : BitVec 32 := Scalar.addi v146 v147
  v148.toNat
def k0_dev6 (d0 : Dev nD) : Nat :=
  let c0_i32_132 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_131 : BitVec 32 := 16#32
  let v149 : BitVec 32 := Scalar.muli v2 c16_i32_131
  let v150 : BitVec 32 := Scalar.addi c0_i32_132 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_133 : BitVec 32 := 4#32
  let v151 : BitVec 32 := Scalar.muli v13 c4_i32_133
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v153 : BitVec 32 := Scalar.muli v8 c1_i32_134
  let v154 : BitVec 32 := Scalar.addi v152 v153
  v154.toNat
def k0_dev7 (d0 : Dev nD) : Nat :=
  let c0_i32_175 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_174 : BitVec 32 := 16#32
  let v192 : BitVec 32 := Scalar.muli v9 c16_i32_174
  let v193 : BitVec 32 := Scalar.addi c0_i32_175 v192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_176 : BitVec 32 := 4#32
  let v194 : BitVec 32 := Scalar.muli v5 c4_i32_176
  let v195 : BitVec 32 := Scalar.addi v193 v194
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_177 : BitVec 32 := 1#32
  let v196 : BitVec 32 := Scalar.muli v8 c1_i32_177
  let v197 : BitVec 32 := Scalar.addi v195 v196
  v197.toNat
def k0_dev8 (d0 : Dev nD) : Nat :=
  let c0_i32_209 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_208 : BitVec 32 := 16#32
  let v231 : BitVec 32 := Scalar.muli v9 c16_i32_208
  let v232 : BitVec 32 := Scalar.addi c0_i32_209 v231
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_210 : BitVec 32 := 4#32
  let v233 : BitVec 32 := Scalar.muli v5 c4_i32_210
  let v234 : BitVec 32 := Scalar.addi v232 v233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v235 : BitVec 32 := Scalar.muli v8 c1_i32_211
  let v236 : BitVec 32 := Scalar.addi v234 v235
  v236.toNat
def k0_dev9 (d0 : Dev nD) : Nat :=
  let c0_i32_217 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_216 : BitVec 32 := 16#32
  let v237 : BitVec 32 := Scalar.muli v2 c16_i32_216
  let v238 : BitVec 32 := Scalar.addi c0_i32_217 v237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_218 : BitVec 32 := 4#32
  let v239 : BitVec 32 := Scalar.muli v13 c4_i32_218
  let v240 : BitVec 32 := Scalar.addi v238 v239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v241 : BitVec 32 := Scalar.muli v8 c1_i32_219
  let v242 : BitVec 32 := Scalar.addi v240 v241
  v242.toNat
def k0_dev10 (d0 : Dev nD) : Nat :=
  let c0_i32_259 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_258 : BitVec 32 := 16#32
  let v280 : BitVec 32 := Scalar.muli v9 c16_i32_258
  let v281 : BitVec 32 := Scalar.addi c0_i32_259 v280
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_260 : BitVec 32 := 4#32
  let v282 : BitVec 32 := Scalar.muli v5 c4_i32_260
  let v283 : BitVec 32 := Scalar.addi v281 v282
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v284 : BitVec 32 := Scalar.muli v8 c1_i32_261
  let v285 : BitVec 32 := Scalar.addi v283 v284
  v285.toNat
def k0_dev11 (d0 : Dev nD) : Nat :=
  let c0_i32_293 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_292 : BitVec 32 := 16#32
  let v319 : BitVec 32 := Scalar.muli v9 c16_i32_292
  let v320 : BitVec 32 := Scalar.addi c0_i32_293 v319
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_294 : BitVec 32 := 4#32
  let v321 : BitVec 32 := Scalar.muli v5 c4_i32_294
  let v322 : BitVec 32 := Scalar.addi v320 v321
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_295 : BitVec 32 := 1#32
  let v323 : BitVec 32 := Scalar.muli v8 c1_i32_295
  let v324 : BitVec 32 := Scalar.addi v322 v323
  v324.toNat
def k0_dev12 (d0 : Dev nD) : Nat :=
  let c0_i32_301 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_300 : BitVec 32 := 16#32
  let v325 : BitVec 32 := Scalar.muli v2 c16_i32_300
  let v326 : BitVec 32 := Scalar.addi c0_i32_301 v325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_302 : BitVec 32 := 4#32
  let v327 : BitVec 32 := Scalar.muli v13 c4_i32_302
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_303 : BitVec 32 := 1#32
  let v329 : BitVec 32 := Scalar.muli v8 c1_i32_303
  let v330 : BitVec 32 := Scalar.addi v328 v329
  v330.toNat
def k0_dev13 (d0 : Dev nD) : Nat :=
  let c0_i32_339 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_338 : BitVec 32 := 16#32
  let v368 : BitVec 32 := Scalar.muli v2 c16_i32_338
  let v369 : BitVec 32 := Scalar.addi c0_i32_339 v368
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_340 : BitVec 32 := 4#32
  let v370 : BitVec 32 := Scalar.muli v13 c4_i32_340
  let v371 : BitVec 32 := Scalar.addi v369 v370
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_341 : BitVec 32 := 1#32
  let v372 : BitVec 32 := Scalar.muli v8 c1_i32_341
  let v373 : BitVec 32 := Scalar.addi v371 v372
  v373.toNat
def k0_dev14 (d0 : Dev nD) : Nat :=
  let c0_i32_373 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_372 : BitVec 32 := 16#32
  let v397 : BitVec 32 := Scalar.muli v9 c16_i32_372
  let v398 : BitVec 32 := Scalar.addi c0_i32_373 v397
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_374 : BitVec 32 := 4#32
  let v399 : BitVec 32 := Scalar.muli v5 c4_i32_374
  let v400 : BitVec 32 := Scalar.addi v398 v399
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v401 : BitVec 32 := Scalar.muli v8 c1_i32_375
  let v402 : BitVec 32 := Scalar.addi v400 v401
  v402.toNat
def k0_dev15 (d0 : Dev nD) : Nat :=
  let c0_i32_407 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_406 : BitVec 32 := 16#32
  let v436 : BitVec 32 := Scalar.muli v9 c16_i32_406
  let v437 : BitVec 32 := Scalar.addi c0_i32_407 v436
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_408 : BitVec 32 := 4#32
  let v438 : BitVec 32 := Scalar.muli v5 c4_i32_408
  let v439 : BitVec 32 := Scalar.addi v437 v438
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v440 : BitVec 32 := Scalar.muli v8 c1_i32_409
  let v441 : BitVec 32 := Scalar.addi v439 v440
  v441.toNat
def k0_dev16 (d0 : Dev nD) : Nat :=
  let c0_i32_415 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_414 : BitVec 32 := 16#32
  let v442 : BitVec 32 := Scalar.muli v2 c16_i32_414
  let v443 : BitVec 32 := Scalar.addi c0_i32_415 v442
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_416 : BitVec 32 := 4#32
  let v444 : BitVec 32 := Scalar.muli v13 c4_i32_416
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v446 : BitVec 32 := Scalar.muli v8 c1_i32_417
  let v447 : BitVec 32 := Scalar.addi v445 v446
  v447.toNat
def k0_dev17 (d0 : Dev nD) : Nat :=
  let c0_i32_453 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_452 : BitVec 32 := 16#32
  let v485 : BitVec 32 := Scalar.muli v2 c16_i32_452
  let v486 : BitVec 32 := Scalar.addi c0_i32_453 v485
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_454 : BitVec 32 := 4#32
  let v487 : BitVec 32 := Scalar.muli v13 c4_i32_454
  let v488 : BitVec 32 := Scalar.addi v486 v487
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v489 : BitVec 32 := Scalar.muli v8 c1_i32_455
  let v490 : BitVec 32 := Scalar.addi v488 v489
  v490.toNat
def k0_dev18 (d0 : Dev nD) : Nat :=
  let c0_i32_487 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_486 : BitVec 32 := 16#32
  let v514 : BitVec 32 := Scalar.muli v9 c16_i32_486
  let v515 : BitVec 32 := Scalar.addi c0_i32_487 v514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_488 : BitVec 32 := 4#32
  let v516 : BitVec 32 := Scalar.muli v5 c4_i32_488
  let v517 : BitVec 32 := Scalar.addi v515 v516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_489 : BitVec 32 := 1#32
  let v518 : BitVec 32 := Scalar.muli v8 c1_i32_489
  let v519 : BitVec 32 := Scalar.addi v517 v518
  v519.toNat
def k0_dev19 (d0 : Dev nD) : Nat :=
  let c0_i32_536 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_535 : BitVec 32 := 16#32
  let v564 : BitVec 32 := Scalar.muli v9 c16_i32_535
  let v565 : BitVec 32 := Scalar.addi c0_i32_536 v564
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_537 : BitVec 32 := 4#32
  let v566 : BitVec 32 := Scalar.muli v5 c4_i32_537
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_538 : BitVec 32 := 1#32
  let v568 : BitVec 32 := Scalar.muli v8 c1_i32_538
  let v569 : BitVec 32 := Scalar.addi v567 v568
  v569.toNat
def k0_dev20 (d0 : Dev nD) : Nat :=
  let c0_i32_546 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_545 : BitVec 32 := 16#32
  let v570 : BitVec 32 := Scalar.muli v2 c16_i32_545
  let v571 : BitVec 32 := Scalar.addi c0_i32_546 v570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_547 : BitVec 32 := 4#32
  let v572 : BitVec 32 := Scalar.muli v13 c4_i32_547
  let v573 : BitVec 32 := Scalar.addi v571 v572
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_548 : BitVec 32 := 1#32
  let v574 : BitVec 32 := Scalar.muli v8 c1_i32_548
  let v575 : BitVec 32 := Scalar.addi v573 v574
  v575.toNat
def k0_dev21 (d0 : Dev nD) : Nat :=
  let c0_i32_584 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_583 : BitVec 32 := 16#32
  let v613 : BitVec 32 := Scalar.muli v2 c16_i32_583
  let v614 : BitVec 32 := Scalar.addi c0_i32_584 v613
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_585 : BitVec 32 := 4#32
  let v615 : BitVec 32 := Scalar.muli v13 c4_i32_585
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_586 : BitVec 32 := 1#32
  let v617 : BitVec 32 := Scalar.muli v8 c1_i32_586
  let v618 : BitVec 32 := Scalar.addi v616 v617
  v618.toNat
def k0_dev22 (d0 : Dev nD) : Nat :=
  let c0_i32_618 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_617 : BitVec 32 := 16#32
  let v642 : BitVec 32 := Scalar.muli v9 c16_i32_617
  let v643 : BitVec 32 := Scalar.addi c0_i32_618 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_619 : BitVec 32 := 4#32
  let v644 : BitVec 32 := Scalar.muli v5 c4_i32_619
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_620 : BitVec 32 := 1#32
  let v646 : BitVec 32 := Scalar.muli v8 c1_i32_620
  let v647 : BitVec 32 := Scalar.addi v645 v646
  v647.toNat
def k0_dev23 (d0 : Dev nD) : Nat :=
  let c0_i32_667 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_666 : BitVec 32 := 16#32
  let v692 : BitVec 32 := Scalar.muli v9 c16_i32_666
  let v693 : BitVec 32 := Scalar.addi c0_i32_667 v692
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_668 : BitVec 32 := 4#32
  let v694 : BitVec 32 := Scalar.muli v5 c4_i32_668
  let v695 : BitVec 32 := Scalar.addi v693 v694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_669 : BitVec 32 := 1#32
  let v696 : BitVec 32 := Scalar.muli v8 c1_i32_669
  let v697 : BitVec 32 := Scalar.addi v695 v696
  v697.toNat
def k0_dev24 (d0 : Dev nD) : Nat :=
  let c0_i32_677 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_676 : BitVec 32 := 16#32
  let v698 : BitVec 32 := Scalar.muli v2 c16_i32_676
  let v699 : BitVec 32 := Scalar.addi c0_i32_677 v698
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_678 : BitVec 32 := 4#32
  let v700 : BitVec 32 := Scalar.muli v13 c4_i32_678
  let v701 : BitVec 32 := Scalar.addi v699 v700
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v702 : BitVec 32 := Scalar.muli v8 c1_i32_679
  let v703 : BitVec 32 := Scalar.addi v701 v702
  v703.toNat
def k0_dev25 (d0 : Dev nD) : Nat :=
  let c0_i32_715 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_714 : BitVec 32 := 16#32
  let v741 : BitVec 32 := Scalar.muli v2 c16_i32_714
  let v742 : BitVec 32 := Scalar.addi c0_i32_715 v741
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_716 : BitVec 32 := 4#32
  let v743 : BitVec 32 := Scalar.muli v13 c4_i32_716
  let v744 : BitVec 32 := Scalar.addi v742 v743
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v745 : BitVec 32 := Scalar.muli v8 c1_i32_717
  let v746 : BitVec 32 := Scalar.addi v744 v745
  v746.toNat
def k0_dev26 (d0 : Dev nD) : Nat :=
  let c0_i32_749 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_748 : BitVec 32 := 16#32
  let v770 : BitVec 32 := Scalar.muli v9 c16_i32_748
  let v771 : BitVec 32 := Scalar.addi c0_i32_749 v770
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_750 : BitVec 32 := 4#32
  let v772 : BitVec 32 := Scalar.muli v5 c4_i32_750
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_751 : BitVec 32 := 1#32
  let v774 : BitVec 32 := Scalar.muli v8 c1_i32_751
  let v775 : BitVec 32 := Scalar.addi v773 v774
  v775.toNat
def k0_dev27 (d0 : Dev nD) : Nat :=
  let c0_i32_798 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_797 : BitVec 32 := 16#32
  let v820 : BitVec 32 := Scalar.muli v9 c16_i32_797
  let v821 : BitVec 32 := Scalar.addi c0_i32_798 v820
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_799 : BitVec 32 := 4#32
  let v822 : BitVec 32 := Scalar.muli v5 c4_i32_799
  let v823 : BitVec 32 := Scalar.addi v821 v822
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_800 : BitVec 32 := 1#32
  let v824 : BitVec 32 := Scalar.muli v8 c1_i32_800
  let v825 : BitVec 32 := Scalar.addi v823 v824
  v825.toNat
def k0_dev28 (d0 : Dev nD) : Nat :=
  let c0_i32_808 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_807 : BitVec 32 := 16#32
  let v826 : BitVec 32 := Scalar.muli v2 c16_i32_807
  let v827 : BitVec 32 := Scalar.addi c0_i32_808 v826
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_809 : BitVec 32 := 4#32
  let v828 : BitVec 32 := Scalar.muli v13 c4_i32_809
  let v829 : BitVec 32 := Scalar.addi v827 v828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_810 : BitVec 32 := 1#32
  let v830 : BitVec 32 := Scalar.muli v8 c1_i32_810
  let v831 : BitVec 32 := Scalar.addi v829 v830
  v831.toNat
def k0_dev29 (d0 : Dev nD) : Nat :=
  let c0_i32_846 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_845 : BitVec 32 := 16#32
  let v869 : BitVec 32 := Scalar.muli v2 c16_i32_845
  let v870 : BitVec 32 := Scalar.addi c0_i32_846 v869
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_847 : BitVec 32 := 4#32
  let v871 : BitVec 32 := Scalar.muli v13 c4_i32_847
  let v872 : BitVec 32 := Scalar.addi v870 v871
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_848 : BitVec 32 := 1#32
  let v873 : BitVec 32 := Scalar.muli v8 c1_i32_848
  let v874 : BitVec 32 := Scalar.addi v872 v873
  v874.toNat
def k0_dev30 (d0 : Dev nD) : Nat :=
  let c0_i32_880 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_879 : BitVec 32 := 16#32
  let v898 : BitVec 32 := Scalar.muli v9 c16_i32_879
  let v899 : BitVec 32 := Scalar.addi c0_i32_880 v898
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_881 : BitVec 32 := 4#32
  let v900 : BitVec 32 := Scalar.muli v5 c4_i32_881
  let v901 : BitVec 32 := Scalar.addi v899 v900
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v902 : BitVec 32 := Scalar.muli v8 c1_i32_882
  let v903 : BitVec 32 := Scalar.addi v901 v902
  v903.toNat
def k0_dev31 (d0 : Dev nD) : Nat :=
  let c0_i32_929 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_928 : BitVec 32 := 16#32
  let v948 : BitVec 32 := Scalar.muli v9 c16_i32_928
  let v949 : BitVec 32 := Scalar.addi c0_i32_929 v948
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_930 : BitVec 32 := 4#32
  let v950 : BitVec 32 := Scalar.muli v5 c4_i32_930
  let v951 : BitVec 32 := Scalar.addi v949 v950
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_931 : BitVec 32 := 1#32
  let v952 : BitVec 32 := Scalar.muli v8 c1_i32_931
  let v953 : BitVec 32 := Scalar.addi v951 v952
  v953.toNat
def k0_dev32 (d0 : Dev nD) : Nat :=
  let c0_i32_939 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_938 : BitVec 32 := 16#32
  let v954 : BitVec 32 := Scalar.muli v2 c16_i32_938
  let v955 : BitVec 32 := Scalar.addi c0_i32_939 v954
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_940 : BitVec 32 := 4#32
  let v956 : BitVec 32 := Scalar.muli v13 c4_i32_940
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_941 : BitVec 32 := 1#32
  let v958 : BitVec 32 := Scalar.muli v8 c1_i32_941
  let v959 : BitVec 32 := Scalar.addi v957 v958
  v959.toNat
def k0_dev33 (d0 : Dev nD) : Nat :=
  let c0_i32_977 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_976 : BitVec 32 := 16#32
  let v997 : BitVec 32 := Scalar.muli v2 c16_i32_976
  let v998 : BitVec 32 := Scalar.addi c0_i32_977 v997
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_978 : BitVec 32 := 4#32
  let v999 : BitVec 32 := Scalar.muli v13 c4_i32_978
  let v1000 : BitVec 32 := Scalar.addi v998 v999
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_979 : BitVec 32 := 1#32
  let v1001 : BitVec 32 := Scalar.muli v8 c1_i32_979
  let v1002 : BitVec 32 := Scalar.addi v1000 v1001
  v1002.toNat
def k0_dev34 (d0 : Dev nD) : Nat :=
  let c0_i32_1011 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1010 : BitVec 32 := 16#32
  let v1026 : BitVec 32 := Scalar.muli v9 c16_i32_1010
  let v1027 : BitVec 32 := Scalar.addi c0_i32_1011 v1026
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1012 : BitVec 32 := 4#32
  let v1028 : BitVec 32 := Scalar.muli v5 c4_i32_1012
  let v1029 : BitVec 32 := Scalar.addi v1027 v1028
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1013 : BitVec 32 := 1#32
  let v1030 : BitVec 32 := Scalar.muli v8 c1_i32_1013
  let v1031 : BitVec 32 := Scalar.addi v1029 v1030
  v1031.toNat
def k0_dev35 (d0 : Dev nD) : Nat :=
  let c0_i32_1060 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1059 : BitVec 32 := 16#32
  let v1076 : BitVec 32 := Scalar.muli v9 c16_i32_1059
  let v1077 : BitVec 32 := Scalar.addi c0_i32_1060 v1076
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1061 : BitVec 32 := 4#32
  let v1078 : BitVec 32 := Scalar.muli v5 c4_i32_1061
  let v1079 : BitVec 32 := Scalar.addi v1077 v1078
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1062 : BitVec 32 := 1#32
  let v1080 : BitVec 32 := Scalar.muli v8 c1_i32_1062
  let v1081 : BitVec 32 := Scalar.addi v1079 v1080
  v1081.toNat
def k0_dev36 (d0 : Dev nD) : Nat :=
  let c0_i32_1070 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1069 : BitVec 32 := 16#32
  let v1082 : BitVec 32 := Scalar.muli v2 c16_i32_1069
  let v1083 : BitVec 32 := Scalar.addi c0_i32_1070 v1082
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1071 : BitVec 32 := 4#32
  let v1084 : BitVec 32 := Scalar.muli v13 c4_i32_1071
  let v1085 : BitVec 32 := Scalar.addi v1083 v1084
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1072 : BitVec 32 := 1#32
  let v1086 : BitVec 32 := Scalar.muli v8 c1_i32_1072
  let v1087 : BitVec 32 := Scalar.addi v1085 v1086
  v1087.toNat
def k0_dev37 (d0 : Dev nD) : Nat :=
  let c0_i32_1108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1107 : BitVec 32 := 16#32
  let v1125 : BitVec 32 := Scalar.muli v2 c16_i32_1107
  let v1126 : BitVec 32 := Scalar.addi c0_i32_1108 v1125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1109 : BitVec 32 := 4#32
  let v1127 : BitVec 32 := Scalar.muli v13 c4_i32_1109
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1110 : BitVec 32 := 1#32
  let v1129 : BitVec 32 := Scalar.muli v8 c1_i32_1110
  let v1130 : BitVec 32 := Scalar.addi v1128 v1129
  v1130.toNat
def k0_dev38 (d0 : Dev nD) : Nat :=
  let c0_i32_1142 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1141 : BitVec 32 := 16#32
  let v1154 : BitVec 32 := Scalar.muli v9 c16_i32_1141
  let v1155 : BitVec 32 := Scalar.addi c0_i32_1142 v1154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1143 : BitVec 32 := 4#32
  let v1156 : BitVec 32 := Scalar.muli v5 c4_i32_1143
  let v1157 : BitVec 32 := Scalar.addi v1155 v1156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1144 : BitVec 32 := 1#32
  let v1158 : BitVec 32 := Scalar.muli v8 c1_i32_1144
  let v1159 : BitVec 32 := Scalar.addi v1157 v1158
  v1159.toNat
def k0_dev39 (d0 : Dev nD) : Nat :=
  let c0_i32_1191 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1190 : BitVec 32 := 16#32
  let v1204 : BitVec 32 := Scalar.muli v9 c16_i32_1190
  let v1205 : BitVec 32 := Scalar.addi c0_i32_1191 v1204
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1192 : BitVec 32 := 4#32
  let v1206 : BitVec 32 := Scalar.muli v5 c4_i32_1192
  let v1207 : BitVec 32 := Scalar.addi v1205 v1206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1193 : BitVec 32 := 1#32
  let v1208 : BitVec 32 := Scalar.muli v8 c1_i32_1193
  let v1209 : BitVec 32 := Scalar.addi v1207 v1208
  v1209.toNat
def k0_dev40 (d0 : Dev nD) : Nat :=
  let c0_i32_1201 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1200 : BitVec 32 := 16#32
  let v1210 : BitVec 32 := Scalar.muli v2 c16_i32_1200
  let v1211 : BitVec 32 := Scalar.addi c0_i32_1201 v1210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1202 : BitVec 32 := 4#32
  let v1212 : BitVec 32 := Scalar.muli v13 c4_i32_1202
  let v1213 : BitVec 32 := Scalar.addi v1211 v1212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1203 : BitVec 32 := 1#32
  let v1214 : BitVec 32 := Scalar.muli v8 c1_i32_1203
  let v1215 : BitVec 32 := Scalar.addi v1213 v1214
  v1215.toNat
def k0_dev41 (d0 : Dev nD) : Nat :=
  let c0_i32_1239 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1238 : BitVec 32 := 16#32
  let v1253 : BitVec 32 := Scalar.muli v2 c16_i32_1238
  let v1254 : BitVec 32 := Scalar.addi c0_i32_1239 v1253
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1240 : BitVec 32 := 4#32
  let v1255 : BitVec 32 := Scalar.muli v13 c4_i32_1240
  let v1256 : BitVec 32 := Scalar.addi v1254 v1255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1241 : BitVec 32 := 1#32
  let v1257 : BitVec 32 := Scalar.muli v8 c1_i32_1241
  let v1258 : BitVec 32 := Scalar.addi v1256 v1257
  v1258.toNat
def k0_dev42 (d0 : Dev nD) : Nat :=
  let c0_i32_1273 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1272 : BitVec 32 := 16#32
  let v1282 : BitVec 32 := Scalar.muli v9 c16_i32_1272
  let v1283 : BitVec 32 := Scalar.addi c0_i32_1273 v1282
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1274 : BitVec 32 := 4#32
  let v1284 : BitVec 32 := Scalar.muli v5 c4_i32_1274
  let v1285 : BitVec 32 := Scalar.addi v1283 v1284
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1275 : BitVec 32 := 1#32
  let v1286 : BitVec 32 := Scalar.muli v8 c1_i32_1275
  let v1287 : BitVec 32 := Scalar.addi v1285 v1286
  v1287.toNat
def k0_dev43 (d0 : Dev nD) : Nat :=
  let c0_i32_1322 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1321 : BitVec 32 := 16#32
  let v1332 : BitVec 32 := Scalar.muli v9 c16_i32_1321
  let v1333 : BitVec 32 := Scalar.addi c0_i32_1322 v1332
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1323 : BitVec 32 := 4#32
  let v1334 : BitVec 32 := Scalar.muli v5 c4_i32_1323
  let v1335 : BitVec 32 := Scalar.addi v1333 v1334
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1324 : BitVec 32 := 1#32
  let v1336 : BitVec 32 := Scalar.muli v8 c1_i32_1324
  let v1337 : BitVec 32 := Scalar.addi v1335 v1336
  v1337.toNat
def k0_dev44 (d0 : Dev nD) : Nat :=
  let c0_i32_1332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1331 : BitVec 32 := 16#32
  let v1338 : BitVec 32 := Scalar.muli v2 c16_i32_1331
  let v1339 : BitVec 32 := Scalar.addi c0_i32_1332 v1338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1333 : BitVec 32 := 4#32
  let v1340 : BitVec 32 := Scalar.muli v13 c4_i32_1333
  let v1341 : BitVec 32 := Scalar.addi v1339 v1340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1334 : BitVec 32 := 1#32
  let v1342 : BitVec 32 := Scalar.muli v8 c1_i32_1334
  let v1343 : BitVec 32 := Scalar.addi v1341 v1342
  v1343.toNat
def k0_dev45 (d0 : Dev nD) : Nat :=
  let c0_i32_1370 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1369 : BitVec 32 := 16#32
  let v1381 : BitVec 32 := Scalar.muli v2 c16_i32_1369
  let v1382 : BitVec 32 := Scalar.addi c0_i32_1370 v1381
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1371 : BitVec 32 := 4#32
  let v1383 : BitVec 32 := Scalar.muli v13 c4_i32_1371
  let v1384 : BitVec 32 := Scalar.addi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1372 : BitVec 32 := 1#32
  let v1385 : BitVec 32 := Scalar.muli v8 c1_i32_1372
  let v1386 : BitVec 32 := Scalar.addi v1384 v1385
  v1386.toNat
def k0_dev46 (d0 : Dev nD) : Nat :=
  let c0_i32_1404 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1403 : BitVec 32 := 16#32
  let v1410 : BitVec 32 := Scalar.muli v9 c16_i32_1403
  let v1411 : BitVec 32 := Scalar.addi c0_i32_1404 v1410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1405 : BitVec 32 := 4#32
  let v1412 : BitVec 32 := Scalar.muli v5 c4_i32_1405
  let v1413 : BitVec 32 := Scalar.addi v1411 v1412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1406 : BitVec 32 := 1#32
  let v1414 : BitVec 32 := Scalar.muli v8 c1_i32_1406
  let v1415 : BitVec 32 := Scalar.addi v1413 v1414
  v1415.toNat
def k0_dev47 (d0 : Dev nD) : Nat :=
  let c0_i32_1453 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1452 : BitVec 32 := 16#32
  let v1460 : BitVec 32 := Scalar.muli v9 c16_i32_1452
  let v1461 : BitVec 32 := Scalar.addi c0_i32_1453 v1460
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1454 : BitVec 32 := 4#32
  let v1462 : BitVec 32 := Scalar.muli v5 c4_i32_1454
  let v1463 : BitVec 32 := Scalar.addi v1461 v1462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1455 : BitVec 32 := 1#32
  let v1464 : BitVec 32 := Scalar.muli v8 c1_i32_1455
  let v1465 : BitVec 32 := Scalar.addi v1463 v1464
  v1465.toNat
def k0_dev48 (d0 : Dev nD) : Nat :=
  let c0_i32_1463 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1462 : BitVec 32 := 16#32
  let v1466 : BitVec 32 := Scalar.muli v2 c16_i32_1462
  let v1467 : BitVec 32 := Scalar.addi c0_i32_1463 v1466
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1464 : BitVec 32 := 4#32
  let v1468 : BitVec 32 := Scalar.muli v13 c4_i32_1464
  let v1469 : BitVec 32 := Scalar.addi v1467 v1468
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1465 : BitVec 32 := 1#32
  let v1470 : BitVec 32 := Scalar.muli v8 c1_i32_1465
  let v1471 : BitVec 32 := Scalar.addi v1469 v1470
  v1471.toNat
def k0_dev49 (d0 : Dev nD) : Nat :=
  let c0_i32_1501 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1500 : BitVec 32 := 16#32
  let v1509 : BitVec 32 := Scalar.muli v2 c16_i32_1500
  let v1510 : BitVec 32 := Scalar.addi c0_i32_1501 v1509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1502 : BitVec 32 := 4#32
  let v1511 : BitVec 32 := Scalar.muli v13 c4_i32_1502
  let v1512 : BitVec 32 := Scalar.addi v1510 v1511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1503 : BitVec 32 := 1#32
  let v1513 : BitVec 32 := Scalar.muli v8 c1_i32_1503
  let v1514 : BitVec 32 := Scalar.addi v1512 v1513
  v1514.toNat
def k0_dev50 (d0 : Dev nD) : Nat :=
  let c0_i32_1535 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1534 : BitVec 32 := 16#32
  let v1538 : BitVec 32 := Scalar.muli v9 c16_i32_1534
  let v1539 : BitVec 32 := Scalar.addi c0_i32_1535 v1538
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1536 : BitVec 32 := 4#32
  let v1540 : BitVec 32 := Scalar.muli v5 c4_i32_1536
  let v1541 : BitVec 32 := Scalar.addi v1539 v1540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1537 : BitVec 32 := 1#32
  let v1542 : BitVec 32 := Scalar.muli v8 c1_i32_1537
  let v1543 : BitVec 32 := Scalar.addi v1541 v1542
  v1543.toNat
def k0_dev51 (d0 : Dev nD) : Nat :=
  let c0_i32_1589 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1588 : BitVec 32 := 16#32
  let v1588 : BitVec 32 := Scalar.muli v2 c16_i32_1588
  let v1589 : BitVec 32 := Scalar.addi c0_i32_1589 v1588
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1590 : BitVec 32 := 4#32
  let v1590 : BitVec 32 := Scalar.muli v13 c4_i32_1590
  let v1591 : BitVec 32 := Scalar.addi v1589 v1590
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1591 : BitVec 32 := 1#32
  let v1592 : BitVec 32 := Scalar.muli v8 c1_i32_1591
  let v1593 : BitVec 32 := Scalar.addi v1591 v1592
  v1593.toNat
def k0_dev52 (d0 : Dev nD) : Nat :=
  let c0_i32_1627 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1626 : BitVec 32 := 16#32
  let v1631 : BitVec 32 := Scalar.muli v2 c16_i32_1626
  let v1632 : BitVec 32 := Scalar.addi c0_i32_1627 v1631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1628 : BitVec 32 := 4#32
  let v1633 : BitVec 32 := Scalar.muli v13 c4_i32_1628
  let v1634 : BitVec 32 := Scalar.addi v1632 v1633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1629 : BitVec 32 := 1#32
  let v1635 : BitVec 32 := Scalar.muli v8 c1_i32_1629
  let v1636 : BitVec 32 := Scalar.addi v1634 v1635
  v1636.toNat
def k0_dev53 (d0 : Dev nD) : Nat :=
  let c0_i32_1642 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1641 : BitVec 32 := 16#32
  let v1642 : BitVec 32 := Scalar.muli v9 c16_i32_1641
  let v1643 : BitVec 32 := Scalar.addi c0_i32_1642 v1642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1643 : BitVec 32 := 4#32
  let v1644 : BitVec 32 := Scalar.muli v5 c4_i32_1643
  let v1645 : BitVec 32 := Scalar.addi v1643 v1644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1644 : BitVec 32 := 1#32
  let v1646 : BitVec 32 := Scalar.muli v8 c1_i32_1644
  let v1647 : BitVec 32 := Scalar.addi v1645 v1646
  v1647.toNat
def k0_dev54 (d0 : Dev nD) : Nat :=
  let c0_i32_1696 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1695 : BitVec 32 := 16#32
  let v1692 : BitVec 32 := Scalar.muli v2 c16_i32_1695
  let v1693 : BitVec 32 := Scalar.addi c0_i32_1696 v1692
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1697 : BitVec 32 := 4#32
  let v1694 : BitVec 32 := Scalar.muli v13 c4_i32_1697
  let v1695 : BitVec 32 := Scalar.addi v1693 v1694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1698 : BitVec 32 := 1#32
  let v1696 : BitVec 32 := Scalar.muli v8 c1_i32_1698
  let v1697 : BitVec 32 := Scalar.addi v1695 v1696
  v1697.toNat
def k0_dev55 (d0 : Dev nD) : Nat :=
  let c0_i32_1734 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1733 : BitVec 32 := 16#32
  let v1735 : BitVec 32 := Scalar.muli v2 c16_i32_1733
  let v1736 : BitVec 32 := Scalar.addi c0_i32_1734 v1735
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1735 : BitVec 32 := 4#32
  let v1737 : BitVec 32 := Scalar.muli v13 c4_i32_1735
  let v1738 : BitVec 32 := Scalar.addi v1736 v1737
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1736 : BitVec 32 := 1#32
  let v1739 : BitVec 32 := Scalar.muli v8 c1_i32_1736
  let v1740 : BitVec 32 := Scalar.addi v1738 v1739
  v1740.toNat
def k0_dev56 (d0 : Dev nD) : Nat :=
  let c0_i32_1749 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_1748 : BitVec 32 := 16#32
  let v1746 : BitVec 32 := Scalar.muli v9 c16_i32_1748
  let v1747 : BitVec 32 := Scalar.addi c0_i32_1749 v1746
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1750 : BitVec 32 := 4#32
  let v1748 : BitVec 32 := Scalar.muli v5 c4_i32_1750
  let v1749 : BitVec 32 := Scalar.addi v1747 v1748
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1751 : BitVec 32 := 1#32
  let v1750 : BitVec 32 := Scalar.muli v8 c1_i32_1751
  let v1751 : BitVec 32 := Scalar.addi v1749 v1750
  v1751.toNat
def k0_dev57 (d0 : Dev nD) : Nat :=
  let c0_i32_1803 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1802 : BitVec 32 := 16#32
  let v1796 : BitVec 32 := Scalar.muli v2 c16_i32_1802
  let v1797 : BitVec 32 := Scalar.addi c0_i32_1803 v1796
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1804 : BitVec 32 := 4#32
  let v1798 : BitVec 32 := Scalar.muli v13 c4_i32_1804
  let v1799 : BitVec 32 := Scalar.addi v1797 v1798
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1805 : BitVec 32 := 1#32
  let v1800 : BitVec 32 := Scalar.muli v8 c1_i32_1805
  let v1801 : BitVec 32 := Scalar.addi v1799 v1800
  v1801.toNat
def k0_dev58 (d0 : Dev nD) : Nat :=
  let c0_i32_1886 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1885 : BitVec 32 := 16#32
  let v1875 : BitVec 32 := Scalar.muli v2 c16_i32_1885
  let v1876 : BitVec 32 := Scalar.addi c0_i32_1886 v1875
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_4 : BitVec 32 := 1#32
  let v11 : BitVec 32 := Scalar.addi v5 c1_i32_4
  let c2_i32_5 : BitVec 32 := 2#32
  let c2_i32_3 : BitVec 32 := 2#32
  let v10 : BitVec 32 := Scalar.remsi v5 c2_i32_3
  let v12 : BitVec 32 := Scalar.muli c2_i32_5 v10
  let v13 : BitVec 32 := Scalar.subi v11 v12
  let c4_i32_1887 : BitVec 32 := 4#32
  let v1877 : BitVec 32 := Scalar.muli v13 c4_i32_1887
  let v1878 : BitVec 32 := Scalar.addi v1876 v1877
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1888 : BitVec 32 := 1#32
  let v1879 : BitVec 32 := Scalar.muli v8 c1_i32_1888
  let v1880 : BitVec 32 := Scalar.addi v1878 v1879
  v1880.toNat
-- ==== ReferenceIdeal.lean ====
abbrev S32768x1024 : Shape := ⟨2, ![32768, 1024]⟩
abbrev S2x16384x1024 : Shape := ⟨3, ![2, 16384, 1024]⟩
abbrev S_ : Shape := ⟨0, ![]⟩
abbrev S16384x1024 : Shape := ⟨2, ![16384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x16384x1024, .f32⟩
  | .hbm, ⟨2, _⟩ => ⟨S_, .f32⟩
  | .hbm, ⟨3, _⟩ => ⟨S16384x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Prog.lean ====
module

public import proofs.«01_k».proof.Proof.Gen.KernelIdeal.Skeleton
public import proofs.«01_k».proof.Proof.Gen.KernelIdeal.Points
public import Idealize.ShloMosaic.Lib.Pipeline.Regions

/-! # The kernel body as a program in the chunk number

The printed body is the whole pipeline written out, chunk after chunk. Here the same operations are
written once, for a symbolic chunk number `k`, and the printed body is shown to be their sequence.
Chunk numbers are plain natural numbers; views and semaphores reduce them modulo what there is. -/

@[expose] public section

noncomputable section

namespace Cert.KernelIdeal

open Idealize.ShloMosaic Idealize.ShloMosaic.TcCoe Idealize.SL.Sem
open Cert.KernelIdeal.Gen

variable {F : FTy → Type} [FloatOps F]

/-- The partner of a device along the mesh's `x` axis. -/
def xp (d : Dev nD) : Dev nD := ⟨k0_dev1 d, k0_dev1_lt d⟩
/-- The partner of a device along the mesh's `y` axis. -/
def yp (d : Dev nD) : Dev nD := ⟨k0_dev2 d, k0_dev2_lt d⟩

/-- Slot `k % 4` lies inside a four-slot buffer. -/
theorem inb_slot (k : ℕ) : ∀ a, (![k % 4, 0, 0] : Fin 3 → Nat) a + S1x512x1024.size a ≤ S4x512x1024.size a := by
  intro a
  have h : k % 4 < 4 := Nat.mod_lt _ (by decide)
  fin_cases a
  · show k % 4 + 1 ≤ 4; omega
  · show 0 + 512 ≤ 512; omega
  · show 0 + 1024 ≤ 1024; omega

/-- Semaphore `k % 16` lies inside an array of sixteen. -/
theorem inb_sem (k : ℕ) : ∀ a, (![k % 16] : Fin 1 → Nat) a + S1.size a ≤ S16.size a := by
  intro a
  have h : k % 16 < 16 := Nat.mod_lt _ (by decide)
  fin_cases a
  show k % 16 + 1 ≤ 16; omega

/-- The rectangle of slot `k % 4` in a four-slot buffer. -/
abbrev slotR (k : ℕ) : Rect S4x512x1024 :=
  Rect.unit (s := S4x512x1024) ![k % 4, 0, 0] S1x512x1024.size (inb_slot k)

/-- Slot `k % 4` of a four-slot buffer, as a plane. -/
abbrev slotM (b : Memref sig .tc .vmem S4x512x1024 .f32) (k : ℕ) : Memref sig .tc .vmem S512x1024 .f32 :=
  (b.slice (slotR k) (fun _ => rfl)).squeeze S512x1024 squeezes_S1x512x1024_S512x1024

/-- A chunk number as one of the sixteen. -/
abbrev f16 (k : ℕ) : Fin 16 := ⟨k % 16, Nat.mod_lt _ (by decide)⟩

/-- The rectangle of chunk `k` of the half a device sends along `x`. -/
abbrev sendR (d : Dev nD) (k : ℕ) : Rect S16384x1024 :=
  Rect.unit (s := S16384x1024) (k0_off1 d (BitVec.ofNat 32 (512 * (k % 16)))) S512x1024.size (k0_off1_inb d (f16 k))
/-- The rectangle of chunk `k` of the half a device keeps. -/
abbrev keepR (d : Dev nD) (k : ℕ) : Rect S16384x1024 :=
  Rect.unit (s := S16384x1024) (k0_off2 d (BitVec.ofNat 32 (512 * (k % 16)))) S512x1024.size (k0_off2_inb d (f16 k))

/-- Chunk `k` of the half sent along `x`, of a whole array. -/
abbrev sendM (a : Memref sig .tc .hbm S16384x1024 .f32) (d : Dev nD) (k : ℕ) : Memref sig .tc .hbm S512x1024 .f32 :=
  a.slice (sendR d k) (fun _ => rfl)
/-- Chunk `k` of the half kept, of a whole array. -/
abbrev keepM (a : Memref sig .tc .hbm S16384x1024 .f32) (d : Dev nD) (k : ℕ) : Memref sig .tc .hbm S512x1024 .f32 :=
  a.slice (keepR d k) (fun _ => rfl)

/-- Semaphore `k % 16` of an array. -/
abbrev semM (a : DmaSems sig S16) (k : ℕ) : DmaSems sig S_ :=
  (a.slice (Rect.unit (s := S16) ![k % 16] S1.size (inb_sem k))).squeeze S_ squeezes_S1_S_

/-- The argument and the result arrays, and the five four-slot buffers. -/
abbrev aX : Memref sig .tc .hbm S16384x1024 .f32 := Memref.whole main_arg0
@[inherit_doc aX] abbrev aO : Memref sig .tc .hbm S16384x1024 .f32 := Memref.whole main_v1
@[inherit_doc aX] abbrev bS : Memref sig .tc .vmem S4x512x1024 .f32 := Memref.whole cc0_scratch0
@[inherit_doc aX] abbrev bL : Memref sig .tc .vmem S4x512x1024 .f32 := Memref.whole cc0_scratch1
@[inherit_doc aX] abbrev bX : Memref sig .tc .vmem S4x512x1024 .f32 := Memref.whole cc0_scratch2
@[inherit_doc aX] abbrev bR : Memref sig .tc .vmem S4x512x1024 .f32 := Memref.whole cc0_scratch3
@[inherit_doc aX] abbrev bY : Memref sig .tc .vmem S4x512x1024 .f32 := Memref.whole cc0_scratch4

/-- A program of one TensorCore that returns nothing. -/
abbrev K (F : FTy → Type) := Prog (TpuEff nD τ sig (Elt F) Λ₀ .tc) PUnit

/-- Fetch chunk `k` of the half to send into its slot. -/
def inS (d : Dev nD) (k : ℕ) : K F :=
  Prog.lift (.enqueueDma (sendM aX d k) (.here (slotM bS k)) (.dma (semM cc0_scratch5 k).sem) (View.wordExact_bits rfl) ((View.wordExact_bits rfl).reshape _ _) ⟨Or.inl rfl, trivial⟩)
/-- Fetch chunk `k` of the half to keep into its slot. -/
def inL (d : Dev nD) (k : ℕ) : K F :=
  Prog.lift (.enqueueDma (keepM aX d k) (.here (slotM bL k)) (.dma (semM cc0_scratch6 k).sem) (View.wordExact_bits rfl) ((View.wordExact_bits rfl).reshape _ _) ⟨Or.inl rfl, trivial⟩)
/-- Await the fetch of chunk `k` to send. -/
def wInS (d : Dev nD) (k : ℕ) : K F :=
  Prog.lift (.waitDma2 (semM cc0_scratch5 k).sem (sendM aX d k) (slotM bS k) (View.wordExact_bits rfl) ((View.wordExact_bits rfl).reshape _ _))
/-- Await the fetch of chunk `k` to keep. -/
def wInL (d : Dev nD) (k : ℕ) : K F :=
  Prog.lift (.waitDma2 (semM cc0_scratch6 k).sem (keepM aX d k) (slotM bL k) (View.wordExact_bits rfl) ((View.wordExact_bits rfl).reshape _ _))
/-- Send chunk `k` to the `x` partner. -/
def sendX (d : Dev nD) (k : ℕ) : K F :=
  Prog.lift (.enqueueDma (slotM bS k) (.remote (Dev.tc (xp d)) (slotM bX k) (.dma (semM cc0_scratch7 k).sem)) (.dma (semM cc0_scratch8 k).sem) ((View.wordExact_bits rfl).reshape _ _) ((View.wordExact_bits rfl).reshape _ _) ⟨⟨rfl, Or.inl rfl⟩, trivial⟩)
/-- Await that chunk `k` has left for the `x` partner. -/
def wSendX (k : ℕ) : K F :=
  Prog.lift (.waitDma2 (semM cc0_scratch7 k).sem (slotM bX k) (slotM bS k) ((View.wordExact_bits rfl).reshape _ _) ((View.wordExact_bits rfl).reshape _ _))
/-- Await chunk `k` from the `x` partner. -/
def wRecvX (k : ℕ) : K F :=
  Prog.lift (.waitDma2 (semM cc0_scratch8 k).sem (slotM bS k) (slotM bX k) ((View.wordExact_bits rfl).reshape _ _) ((View.wordExact_bits rfl).reshape _ _))
/-- Send the sum of chunk `k` to the `y` partner. -/
def sendY (d : Dev nD) (k : ℕ) : K F :=
  Prog.lift (.enqueueDma (slotM bR k) (.remote (Dev.tc (yp d)) (slotM bY k) (.dma (semM cc0_scratch9 k).sem)) (.dma (semM cc0_scratch10 k).sem) ((View.wordExact_bits rfl).reshape _ _) ((View.wordExact_bits rfl).reshape _ _) ⟨⟨rfl, Or.inl rfl⟩, trivial⟩)
/-- Await that the sum of chunk `k` has left for the `y` partner. -/
def wSendY (k : ℕ) : K F :=
  Prog.lift (.waitDma2 (semM cc0_scratch9 k).sem (slotM bY k) (slotM bR k) ((View.wordExact_bits rfl).reshape _ _) ((View.wordExact_bits rfl).reshape _ _))
/-- Await the sum of chunk `k` from the `y` partner. -/
def wRecvY (k : ℕ) : K F :=
  Prog.lift (.waitDma2 (semM cc0_scratch10 k).sem (slotM bR k) (slotM bY k) ((View.wordExact_bits rfl).reshape _ _) ((View.wordExact_bits rfl).reshape _ _))
/-- Store the own sum of chunk `k` into the result. -/
def outR (d : Dev nD) (k : ℕ) : K F :=
  Prog.lift (.enqueueDma (slotM bR k) (.here (keepM aO d k)) (.dma (semM cc0_scratch11 k).sem) ((View.wordExact_bits rfl).reshape _ _) (View.wordExact_bits rfl) ⟨Or.inl rfl, trivial⟩)
/-- Await that store. -/
def wOutR (d : Dev nD) (k : ℕ) : K F :=
  Prog.lift (.waitDma2 (semM cc0_scratch11 k).sem (slotM bR k) (keepM aO d k) ((View.wordExact_bits rfl).reshape _ _) (View.wordExact_bits rfl))
/-- Store the `y` partner's sum of chunk `k` into the result. -/
def outY (d : Dev nD) (k : ℕ) : K F :=
  Prog.lift (.enqueueDma (slotM bY k) (.here (sendM aO d k)) (.dma (semM cc0_scratch12 k).sem) ((View.wordExact_bits rfl).reshape _ _) (View.wordExact_bits rfl) ⟨Or.inl rfl, trivial⟩)
/-- Await that store. -/
def wOutY (d : Dev nD) (k : ℕ) : K F :=
  Prog.lift (.waitDma2 (semM cc0_scratch12 k).sem (slotM bY k) (sendM aO d k) ((View.wordExact_bits rfl).reshape _ _) (View.wordExact_bits rfl))

/-- Load slot `k % 4` of a buffer. -/
def loadB (b : Memref sig .tc .vmem S4x512x1024 .f32) (k : ℕ) : Prog (TpuEff nD τ sig (Elt F) Λ₀ .tc) (Vec F S1x512x1024 .f32) :=
  Prog.lift (.load b (slotR k).toLoadRect (View.loadsAt_vmem h_S1x512x1024))
/-- Store a plane into slot `k % 4` of the buffer of sums. -/
def storeR (k : ℕ) (v : FVec F S1x512x1024 .f32) : K F :=
  Prog.lift (.store bR (slotR k) v Finset.univ (View.stores_vmem_bits_univ h_S1x512x1024 rfl) (.inl rfl))
/-- Add the chunk received to the own chunk, into the buffer of sums. -/
def addUp (k : ℕ) : K F := do
  let a ← loadB (F := F) bL k
  let b ← loadB (F := F) bX k
  let _ ← loadB (F := F) bR k
  storeR k (k0_pay1 a b)

/-- Tell the `x` partner that a slot has been read. -/
def giveX (d : Dev nD) : K F := semSignalWord (xp d) cc0_scratch13.sem 1#32
/-- Tell the `y` partner that a slot has been stored. -/
def giveY (d : Dev nD) : K F := semSignalWord (yp d) cc0_scratch14.sem 1#32
/-- Await a slot at the `x` partner. -/
def takeX : K F := semWaitWord cc0_scratch13.sem 1#32
/-- Await a slot at the `y` partner. -/
def takeY : K F := semWaitWord cc0_scratch14.sem 1#32

/-- Do a step where a condition holds. -/
def when (p : Prop) [Decidable p] (q : K F) : K F := if p then q else pure ⟨⟩

/-- Fetch both halves' chunk `k`. -/
def stageIn (d : Dev nD) (k : ℕ) : K F := do
  inS d k
  inL d k
/-- Send chunk `k` once it is fetched and its slot is free. -/
def startX (d : Dev nD) (k : ℕ) : K F := do
  wInS d k
  when (4 ≤ k) takeX
  sendX d k
/-- Take the `y` partner's chunk `k` over into the result. -/
def drainY (d : Dev nD) (k : ℕ) : K F := do
  wRecvY k
  outY d k
  wOutY d k
/-- Free the buffers of chunk `k`'s sum. -/
def freeR (d : Dev nD) (k : ℕ) : K F := do
  wSendY k
  wOutR d k
/-- The buffers of chunk `k + 4` become free and are filled again. -/
def refill (d : Dev nD) (k : ℕ) : K F := do
  wSendX k
  stageIn d (k + 4)
/-- Take over the chunk two back and free its slot. -/
def lagY (d : Dev nD) (k : ℕ) : K F := do
  drainY d (k - 2)
  when (k - 2 ≤ 11) (giveY d)

/-- One trip of the pipeline. -/
def trip (d : Dev nD) (k : ℕ) : K F := do
  when (k + 1 < 16) (startX d (k + 1))
  wInL d k
  wRecvX k
  when (4 ≤ k) (freeR d (k - 4))
  addUp k
  when (k ≤ 11) (giveX d)
  when (4 ≤ k) takeY
  sendY d k
  outR d k
  when (2 ≤ k) (lagY d k)
  when (k + 4 < 16) (refill d k)

/-- The first `n` trips. -/
def trips (d : Dev nD) : ℕ → K F
  | 0 => pure ⟨⟩
  | n + 1 => do
    trips d n
    trip d n

/-- Free what chunk `k` still holds at the end. -/
def lastFree (d : Dev nD) (k : ℕ) : K F := do
  wSendX k
  freeR d k

/-- The handshake with both partners. -/
def hands (d : Dev nD) : K F := do
  semSignalWord (xp d) (SemArray.scalar (sig.barrier 0 rfl) : Sems sig S_).sem 1#32
  semSignalWord (yp d) (SemArray.scalar (sig.barrier 0 rfl) : Sems sig S_).sem 1#32
  semWaitWord (SemArray.scalar (sig.barrier 0 rfl) : Sems sig S_).sem 2#32

/-- Start the pipeline: four chunks fetched, the first one sent. -/
def fillUp (d : Dev nD) : K F := do
  stageIn d 0
  stageIn d 1
  stageIn d 2
  stageIn d 3
  startX d 0

/-- The end of the pipeline. -/
def endUp (d : Dev nD) : K F := do
  drainY d 14
  drainY d 15
  lastFree d 12
  lastFree d 13
  lastFree d 14
  lastFree d 15

/-- The body, once the device knows which one it is. -/
def bodyOf (d : Dev nD) : K F := do
  hands d
  fillUp d
  trips d 16
  endUp d

/-- The body. -/
def myBody : K F := do
  let d ← Prog.lift .deviceId
  bodyOf d

/-- The printed body is this program. -/
theorem body_eq (t : Fin cfg0.N) : bodyAt0 (F := F) t = myBody := by
  chain_rfl

end Cert.KernelIdeal

end
-- ==== Proof.Base.lean ====
/-
# The protocol of the exchange: cells, contents, payloads, levels

Every device moves sixteen chunks through eight kinds of copies.  Each kind has one completion semaphore per
chunk, used once.  This module says what every completion hands over, and in which order the cells may be
waited on.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Ring
public import Idealize.ShloMosaic.Lib.Tactic

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- A landing slot that is handed to its writer again and again: which neighbour writes it (`false` the
    x-neighbour, `true` the y-neighbour), whose memory it lies in, which of the four slots. -/
abbrev Key : Type := Bool × Dev nD × Fin 4

/-- The algebra of the cells' rounds, and that of the slots' releases. -/
def UB : Type := URounds (GSem nD τ sig) ℕ
def US : Type := Release.USlots Key
instance UB_ura : URA UB := inferInstanceAs (URA (URounds (GSem nD τ sig) ℕ))
instance US_ura : URA US := inferInstanceAs (URA (Release.USlots Key))
/-- With the windows' own, which this kernel does not use. -/
def UU : Type := UR sig nD τ × (UB × US)
instance UU_ura : URA UU := inferInstanceAs (URA (UR sig nD τ × (UB × US)))

local notation "𝕄" => MT nD τ sig ℕ (Elt F) ℕ UU ℕ

def EP : Emb (UR sig nD τ) (MT nD τ sig ℕ (Elt F) ℕ UU ℕ) :=
  (embL : Emb (UR sig nD τ) (MT nD τ sig ℕ (Elt F) ℕ (UR sig nD τ × (UB × US)) ℕ))
def EBS : Emb (UB × US) (MT nD τ sig ℕ (Elt F) ℕ UU ℕ) :=
  (embR : Emb (UB × US) (MT nD τ sig ℕ (Elt F) ℕ (UR sig nD τ × (UB × US)) ℕ))
def ER : Emb (URounds (GSem nD τ sig) ℕ) (MT nD τ sig ℕ (Elt F) ℕ UU ℕ) := (Emb.inl : Emb UB (UB × US)).trans EBS
def ES : Emb (Release.USlots Key) (MT nD τ sig ℕ (Elt F) ℕ UU ℕ) := (Emb.inr : Emb US (UB × US)).trans EBS

instance EP_landsIn : (EP (F := F)).LandsIn (upEmb : UEmb _ 𝕄) :=
  embL_landsIn (nD := nD) (τ := τ) (sig := sig) (Ix := ℕ) (Val := Elt F) (Name := ℕ) (Lvl := ℕ) (A := UR sig nD τ) (B := UB × US)
instance EBS_landsIn : (EBS (F := F)).LandsIn (upEmb : UEmb _ 𝕄) :=
  embR_landsIn (nD := nD) (τ := τ) (sig := sig) (Ix := ℕ) (Val := Elt F) (Name := ℕ) (Lvl := ℕ) (A := UR sig nD τ) (B := UB × US)
instance ER_landsIn : (ER (F := F)).LandsIn (upEmb : UEmb _ 𝕄) := by
  show ((Emb.inl : Emb UB (UB × US)).trans EBS).LandsIn _
  infer_instance
instance ES_landsIn : (ES (F := F)).LandsIn (upEmb : UEmb _ 𝕄) := by
  show ((Emb.inr : Emb US (UB × US)).trans EBS).LandsIn _
  infer_instance

variable (m : (ℓ : Loc nD τ sig) → Buf (Elt F) ℓ)

/-! ## The neighbours -/

/-- The x-neighbour's x-neighbour is the device itself. -/
theorem xp_xp (c : Dev nD) : xp (xp c) = c := by revert c; decide
/-- The y-neighbour's y-neighbour is the device itself. -/
theorem yp_yp (c : Dev nD) : yp (yp c) = c := by revert c; decide

/-! ## The cells -/

/-- The completion semaphore of copy kind `a` for chunk `k`. -/
def dq (a : Fin 8) (k : ℕ) : DmaSem sig := (⟨16 * a.val + k % 16, by omega⟩ : Fin 128)

/-- Its cell on device `c`. -/
def dcell (c : Dev nD) (a : Fin 8) (k : ℕ) : GSem nD τ sig := ((c : Thread nD τ), .dma (dq a k))

/-- The credit cells and the barrier cell of device `c`. -/
abbrev cxS : Sem sig := cc0_scratch13.sem
abbrev cyS : Sem sig := cc0_scratch14.sem
abbrev barS : Sem sig := (SemArray.scalar (sig.barrier 0 rfl) : Sems sig S_).sem
def cxCell (c : Dev nD) : GSem nD τ sig := ((c : Thread nD τ), .reg cxS)
def cyCell (c : Dev nD) : GSem nD τ sig := ((c : Thread nD τ), .reg cyS)
def barCell (c : Dev nD) : GSem nD τ sig := ((c : Thread nD τ), .reg barS)

/-- The amount of every copy: they all move a chunk of the same shape. -/
@[irreducible] def N : ℕ := RefSig.tileCredit S512x1024 .f32

/-- A chunk's copy pays a positive credit. -/
theorem N_pos : 0 < N := by unfold N; exact RefSig.tileCredit_pos _ _ (by decide)

/-! ## Contents -/

/-- What device `d` is given. -/
def xv (d : Dev nD) : FVec F S16384x1024 .f32 := m ((d : Thread nD τ).loc main_arg0)

/-- The sum along x: device `d`'s array and its x-neighbour's. -/
def sumA (d : Dev nD) : FVec F S16384x1024 .f32 := addf (xv m d) (xv m (xp d))

/-- Which half of the rows device `d` sums itself. -/
def rOf (d : Dev nD) : ℕ := (d.val / 16 + d.val / 4 % 4) % 2

/-- The array device `c` ends with: its own half summed there, the other half summed by its y-neighbour. -/
def outF (c : Dev nD) : FVec F S16384x1024 .f32 := fun i => if (i 0).val / 8192 = rOf c then sumA m c i else sumA m (yp c) i

/-- The chunk sent to the x-neighbour, the chunk kept, and the chunk summed. -/
def sv (d : Dev nD) (k : ℕ) : FVec F S512x1024 .f32 := (sendM aX d k).view.read (Val := Elt F) (xv m d)
def kv (d : Dev nD) (k : ℕ) : FVec F S512x1024 .f32 := (keepM aX d k).view.read (Val := Elt F) (xv m d)
def rv (d : Dev nD) (k : ℕ) : FVec F S512x1024 .f32 := addf (kv m d k) (sv m (xp d) k)

/-! ## Assertions about the memory under a view -/

/-- The elements under `M` on device `c`, with share `q`, whose contents read as `v`. -/
def holds (c : Dev nD) {sp : Space} {s : Shape} (M : Memref sig .tc sp s .f32) (q : PosShare TreeShare) (v : FVec F s .f32) : sProp 𝕄 :=
  iprop(∃ f : Buf (Elt F) (M.view.loc (c : Thread nD τ)), ⌜M.view.read (Val := Elt F) f = v⌝ ∗ (M.view.loc (c : Thread nD τ)) ↦[M.view.set]{q} f)

/-- The elements under `M` on device `c` at any contents. -/
def free (c : Dev nD) {sp : Space} {s : Shape} (M : Memref sig .tc sp s .f32) : sProp 𝕄 :=
  Release.slot (M.view.loc (c : Thread nD τ)) M.view.set

instance holds_storable (c : Dev nD) {sp : Space} {s : Shape} (M : Memref sig .tc sp s .f32) (q : PosShare TreeShare) (v : FVec F s .f32) :
    Storable (upEmb : UEmb _ 𝕄) (holds c M q v) := by unfold holds; infer_instance
instance free_storable (c : Dev nD) {sp : Space} {s : Shape} (M : Memref sig .tc sp s .f32) :
    Storable (upEmb : UEmb _ 𝕄) (free (F := F) c M) := by unfold free; infer_instance

/-! ## The payloads -/

/-- Half a share, and the other half. -/
abbrev hl : PosShare TreeShare := fullShare.left
abbrev hr : PosShare TreeShare := fullShare.right

/-- The landing slot of chunk `k` on device `d`, from the x-neighbour or the y-neighbour. -/
def key (w : Bool) (d : Dev nD) (k : ℕ) : Key := (w, d, ⟨k % 4, by omega⟩)

/-- The slot of chunk `k` has been released for the write that brings chunk `k`. -/
def ready (w : Bool) (d : Dev nD) (k : ℕ) : sProp 𝕄 := Release.released ES (key w d k) (k / 4 + 1)

/-- What the completion of copy kind `a` of chunk `k` hands device `c`. -/
def dmaPay (c : Dev nD) (a : Fin 8) (k : ℕ) : sProp 𝕄 :=
  match a with
  | 0 => iprop(holds c (slotM bS k) fullShare (sv m c k) ∗ holds c (sendM aX c k) fullShare (sv m c k))
  | 1 => iprop(holds c (slotM bL k) fullShare (kv m c k) ∗ holds c (keepM aX c k) fullShare (kv m c k))
  | 2 => holds c (slotM bS k) fullShare (sv m c k)
  | 3 => holds c (slotM bX k) fullShare (sv m (xp c) k)
  | 4 => holds c (slotM bR k) hl (rv m c k)
  | 5 => holds c (slotM bY k) fullShare (rv m (yp c) k)
  | 6 => iprop(holds c (keepM aO c k) fullShare (rv m c k) ∗ holds c (slotM bR k) hr (rv m c k))
  | 7 => iprop(holds c (sendM aO c k) fullShare (rv m (yp c) k) ∗ holds c (slotM bY k) fullShare (rv m (yp c) k))

/-- What credit number `j` tells its receiver: the peer `d`'s slots of the chunks up to `j + 4` are released. -/
def credPay (w : Bool) (d : Dev nD) (j : ℕ) : sProp 𝕄 := bigSep (Finset.range (j + 1)) fun i => ready (F := F) w d (i + 4)

/-- What a neighbour's barrier signal tells: its four slots are released for the first writes. -/
def barPay (w : Bool) (d : Dev nD) : sProp 𝕄 := bigSep (Finset.range 4) fun i => ready (F := F) w d i

/-- The schedule: one round on every cell.  A copy's cell has one duty, the credit cells twelve, the barrier
    cell one for either neighbour. -/
def Rd : Schedule (GSem nD τ sig) ℕ 𝕄 where
  duties g r := if r = 0 then
      match g.1.2, g.2 with
      | .tc, .dma _ => {0}
      | .tc, .reg s => if s = barS then {0, 1} else Finset.range 12
      | _, _ => ∅
    else ∅
  amount g _ _ := match g.2 with
    | .dma _ => N
    | .reg _ => 1
  payload g _ d := match g.2 with
    | .dma q => dmaPay m g.1.1 ⟨(show Fin 128 from q).val / 16, by have := (show Fin 128 from q).isLt; omega⟩ ((show Fin 128 from q).val % 16)
    | .reg s => if s = barS then (if d = 0 then barPay false (xp g.1.1) else barPay true (yp g.1.1))
        else if s = cxS then credPay false (xp g.1.1) d else credPay true (yp g.1.1) d
  amount_pos g r d _ := by
    rcases g with ⟨t, q | q⟩
    · exact Nat.one_pos
    · exact N_pos

instance ready_storable (w : Bool) (d : Dev nD) (k : ℕ) : Storable (upEmb : UEmb _ 𝕄) (ready (F := F) w d k) := by unfold ready; infer_instance
instance credPay_storable (w : Bool) (d : Dev nD) (k : ℕ) : Storable (upEmb : UEmb _ 𝕄) (credPay (F := F) w d k) := by unfold credPay; infer_instance
instance barPay_storable (w : Bool) (d : Dev nD) : Storable (upEmb : UEmb _ 𝕄) (barPay (F := F) w d) := by unfold barPay; infer_instance
instance dmaPay_storable (c : Dev nD) (a : Fin 8) (k : ℕ) : Storable (upEmb : UEmb _ 𝕄) (dmaPay m c a k) := by
  unfold dmaPay; split <;> infer_instance
instance Rd_payload_storable (g : GSem nD τ sig) (r : ℕ) (d : ℕ) : Storable (upEmb : UEmb _ 𝕄) ((Rd m).payload g r d) := by
  rcases g with ⟨t, s | q⟩
  · show Storable _ (if s = barS then (if d = 0 then barPay false (xp t.1) else barPay true (yp t.1))
        else if s = cxS then credPay false (xp t.1) d else credPay true (yp t.1) d)
    split
    · split <;> infer_instance
    · split <;> infer_instance
  · exact dmaPay_storable m t.1 _ _

/-- The two credit semaphores differ. -/
theorem cyS_ne_cxS : cyS ≠ cxS := by decide
/-- The x credit semaphore is not the barrier's. -/
theorem cxS_ne_barS : cxS ≠ barS := by decide
/-- The y credit semaphore is not the barrier's. -/
theorem cyS_ne_barS : cyS ≠ barS := by decide

/-- A copy's semaphore is paid by one duty. -/
theorem duties_dma (c : Dev nD) (a : Fin 8) (k : ℕ) : (Rd m).duties (dcell c a k) 0 = {0} := rfl
/-- The x credit semaphore is paid by twelve duties. -/
theorem duties_cx (c : Dev nD) : (Rd m).duties (cxCell c) 0 = Finset.range 12 := by
  show (if cxS = barS then {0, 1} else Finset.range 12) = Finset.range 12
  exact if_neg cxS_ne_barS
/-- The y credit semaphore is paid by twelve duties. -/
theorem duties_cy (c : Dev nD) : (Rd m).duties (cyCell c) 0 = Finset.range 12 := by
  show (if cyS = barS then {0, 1} else Finset.range 12) = Finset.range 12
  exact if_neg cyS_ne_barS
/-- The barrier is paid by two duties, one for each neighbour. -/
theorem duties_bar (c : Dev nD) : (Rd m).duties (barCell c) 0 = {0, 1} := by
  show (if barS = barS then {0, 1} else Finset.range 12) = {0, 1}
  exact if_pos rfl
/-- There is one round only: nothing is owed in later rounds. -/
theorem duties_later (g : GSem nD τ sig) : ∀ r, 1 ≤ r → (Rd m).duties g r = ∅ := fun r hr => if_neg (by omega)

/-- A copy pays one chunk's credit. -/
theorem amount_dma (t : Thread nD τ) (q : DmaSem sig) (r d : ℕ) : (Rd m).amount (t, .dma q) r d = N := rfl
/-- A signal pays one. -/
theorem amount_reg (t : Thread nD τ) (s : Sem sig) (r d : ℕ) : (Rd m).amount (t, .reg s) r d = 1 := rfl

/-- The units a round expects, unfolded. -/
theorem expect_eq (R : Schedule (GSem nD τ sig) ℕ 𝕄) (g : GSem nD τ sig) (r : ℕ) : R.expect g r = ∑ d ∈ R.duties g r, R.amount g r d := rfl
/-- A copy's semaphore is owed one chunk's credit in all. -/
theorem expect_dma (c : Dev nD) (a : Fin 8) (k : ℕ) : (Rd m).expect (dcell c a k) 0 = N := by
  rw [expect_eq, duties_dma, Finset.sum_singleton]
  exact amount_dma m _ _ _ _
/-- The x credit semaphore is owed twelve in all. -/
theorem expect_cx (c : Dev nD) : (Rd m).expect (cxCell c) 0 = 12 := by
  rw [expect_eq, duties_cx]
  exact (Finset.sum_congr rfl fun d _ => amount_reg m _ _ _ d).trans (by rw [Finset.sum_const, Finset.card_range]; rfl)
/-- The y credit semaphore is owed twelve in all. -/
theorem expect_cy (c : Dev nD) : (Rd m).expect (cyCell c) 0 = 12 := by
  rw [expect_eq, duties_cy]
  exact (Finset.sum_congr rfl fun d _ => amount_reg m _ _ _ d).trans (by rw [Finset.sum_const, Finset.card_range]; rfl)
/-- The barrier is owed two in all. -/
theorem expect_bar (c : Dev nD) : (Rd m).expect (barCell c) 0 = 2 := by
  rw [expect_eq, duties_bar]
  exact (Finset.sum_congr rfl fun d _ => amount_reg m _ _ _ d).trans (by rw [Finset.sum_const]; rfl)

/-- The kind of a copy's semaphore is read off its number. -/
theorem dq_div (a : Fin 8) (k : ℕ) : (⟨(show Fin 128 from dq a k).val / 16, by have := (show Fin 128 from dq a k).isLt; omega⟩ : Fin 8) = a := by
  apply Fin.ext; show (16 * a.val + k % 16) / 16 = a.val; omega
/-- So is the chunk. -/
theorem dq_mod (a : Fin 8) {k : ℕ} (hk : k < 16) : (show Fin 128 from dq a k).val % 16 = k := by
  show (16 * a.val + k % 16) % 16 = k; omega

/-- What arrives with a copy's credit. -/
theorem payload_dma (c : Dev nD) (a : Fin 8) {k : ℕ} (hk : k < 16) (r d : ℕ) : (Rd m).payload (dcell c a k) r d = dmaPay m c a k := by
  show dmaPay m c _ _ = _
  rw [dq_div, dq_mod a hk]
/-- The payload of a regular semaphore's duty, unfolded. -/
theorem payload_reg (c : Dev nD) (s : Sem sig) (r d : ℕ) : (Rd m).payload ((c : Thread nD τ), .reg s) r d
    = if s = barS then (if d = 0 then barPay false (xp c) else barPay true (yp c))
        else if s = cxS then credPay false (xp c) d else credPay true (yp c) d := rfl
/-- What arrives with a credit from the x-neighbour. -/
theorem payload_cx (c : Dev nD) (r d : ℕ) : (Rd m).payload (cxCell c) r d = credPay false (xp c) d := by
  unfold cxCell; rw [payload_reg, if_neg cxS_ne_barS, if_pos rfl]
/-- What arrives with a credit from the y-neighbour. -/
theorem payload_cy (c : Dev nD) (r d : ℕ) : (Rd m).payload (cyCell c) r d = credPay true (yp c) d := by
  unfold cyCell; rw [payload_reg, if_neg cyS_ne_barS, if_neg cyS_ne_cxS]
/-- What arrives with the x-neighbour's signal at the barrier. -/
theorem payload_bar0 (c : Dev nD) (r : ℕ) : (Rd m).payload (barCell c) r 0 = barPay false (xp c) := by
  unfold barCell; rw [payload_reg, if_pos rfl, if_pos rfl]
/-- What arrives with the y-neighbour's signal at the barrier. -/
theorem payload_bar1 (c : Dev nD) (r : ℕ) : (Rd m).payload (barCell c) r 1 = barPay true (yp c) := by
  unfold barCell; rw [payload_reg, if_pos rfl, if_neg Nat.one_ne_zero]

/-! ## Levels: which waits come before which debts

The receive of chunk `j` over x comes before the credit for chunk `j + 4` over x, which comes before the
receive over y, and the credit over y follows two chunks later. -/

def L (g : GSem nD τ sig) : Finset ℕ := if g.1.2 = .tc then Finset.range 16 else ∅

/-- The level of a cell at an index. -/
def lv (g : GSem nD τ sig) (ι : ℕ) : ℕ := match g.2 with
  | .dma q =>
    if (show Fin 128 from q).val / 16 = 3 then 10 * ((show Fin 128 from q).val % 16) + 5
    else if (show Fin 128 from q).val / 16 = 5 then 10 * ((show Fin 128 from q).val % 16) + 7
    else 0
  | .reg s => if s = barS then 1 else if s = cxS then 10 * ι + 6 else 10 * ι + 28

/-- Every semaphore of a device's core is given levels at sixteen indices. -/
theorem L_tc (c : Dev nD) (s : SemLoc sig) : L ((c : Thread nD τ), s) = Finset.range 16 := if_pos rfl

/-- The level of a copy's semaphore: it grows with the chunk for the remote copies' landings, and is zero for the rest. -/
theorem lv_dma (c : Dev nD) (a : Fin 8) {k : ℕ} (hk : k < 16) (ι : ℕ) :
    lv (dcell c a k) ι = if a.val = 3 then 10 * k + 5 else if a.val = 5 then 10 * k + 7 else 0 := by
  have h1 : (16 * a.val + k % 16) / 16 = a.val := by omega
  have h2 : (16 * a.val + k % 16) % 16 = k := by omega
  show (if (16 * a.val + k % 16) / 16 = 3 then 10 * ((16 * a.val + k % 16) % 16) + 5
    else if (16 * a.val + k % 16) / 16 = 5 then 10 * ((16 * a.val + k % 16) % 16) + 7 else 0) = _
  rw [h1, h2]
/-- The level of a regular semaphore, unfolded. -/
theorem lv_reg (c : Dev nD) (s : Sem sig) (ι : ℕ) : lv ((c : Thread nD τ), .reg s) ι
    = if s = barS then 1 else if s = cxS then 10 * ι + 6 else 10 * ι + 28 := rfl
/-- The level of the x credit of a given number. -/
theorem lv_cx (c : Dev nD) (ι : ℕ) : lv (cxCell c) ι = 10 * ι + 6 := by
  unfold cxCell; rw [lv_reg, if_neg cxS_ne_barS, if_pos rfl]
/-- The level of the y credit of a given number. -/
theorem lv_cy (c : Dev nD) (ι : ℕ) : lv (cyCell c) ι = 10 * ι + 28 := by
  unfold cyCell; rw [lv_reg, if_neg cyS_ne_barS, if_neg cyS_ne_cxS]
/-- The level of the barrier. -/
theorem lv_bar (c : Dev nD) (ι : ℕ) : lv (barCell c) ι = 1 := by
  unfold barCell; rw [lv_reg, if_pos rfl]

/-- What device `c` still owes: the receives of its neighbours from chunk `a` over x and `b` over y, and the
    credits from `x` and `y` on. -/
def Odebt (c : Dev nD) (a b x y : ℕ) : CellTallies nD τ sig ℕ :=
  (∑ j ∈ Finset.Ico a 16, tallyAt (dcell (xp c) 3 j) 0 N) + (∑ j ∈ Finset.Ico b 16, tallyAt (dcell (yp c) 5 j) 0 N)
    + (∑ j ∈ Finset.Ico x 12, tallyAt (cxCell (xp c)) j 1) + (∑ j ∈ Finset.Ico y 12, tallyAt (cyCell (yp c)) j 1)

/-- A debt in the bundle is one of its terms. -/
theorem Odebt_pos {c : Dev nD} {a b x y : ℕ} {g : GSem nD τ sig} {ι : ℕ} (h : 0 < Odebt c a b x y g ι) :
    (∃ j, a ≤ j ∧ j < 16 ∧ g = dcell (xp c) 3 j ∧ ι = 0) ∨ (∃ j, b ≤ j ∧ j < 16 ∧ g = dcell (yp c) 5 j ∧ ι = 0)
      ∨ (x ≤ ι ∧ ι < 12 ∧ g = cxCell (xp c)) ∨ (y ≤ ι ∧ ι < 12 ∧ g = cyCell (yp c)) := by
  have key : ∀ {s : Finset ℕ} {G : ℕ → GSem nD τ sig} {I : ℕ → ℕ} {n : ℕ},
      0 < (∑ j ∈ s, tallyAt (G j) (I j) n : CellTallies nD τ sig ℕ) g ι → ∃ j ∈ s, g = G j ∧ ι = I j := by
    intro s G I n hp
    by_contra hne
    push Not at hne
    have : (∑ j ∈ s, tallyAt (G j) (I j) n : CellTallies nD τ sig ℕ) g ι = 0 := by
      rw [Finset.sum_apply, Finsupp.finset_sum_apply]
      refine Finset.sum_eq_zero fun j hj => ?_
      by_contra hz
      have := Pipeline.tallyAt_pos (Nat.pos_of_ne_zero hz)
      exact hne j hj this.1 this.2
    omega
  have hsum : 0 < (∑ j ∈ Finset.Ico a 16, tallyAt (dcell (xp c) 3 j) 0 N : CellTallies nD τ sig ℕ) g ι
      ∨ 0 < (∑ j ∈ Finset.Ico b 16, tallyAt (dcell (yp c) 5 j) 0 N : CellTallies nD τ sig ℕ) g ι
      ∨ 0 < (∑ j ∈ Finset.Ico x 12, tallyAt (cxCell (xp c)) j 1 : CellTallies nD τ sig ℕ) g ι
      ∨ 0 < (∑ j ∈ Finset.Ico y 12, tallyAt (cyCell (yp c)) j 1 : CellTallies nD τ sig ℕ) g ι := by
    by_contra hne
    push Not at hne
    have : Odebt c a b x y g ι = 0 := by
      unfold Odebt
      simp only [Pi.add_apply, Finsupp.add_apply]
      omega
    omega
  rcases hsum with h | h | h | h
  · obtain ⟨j, hj, hg, hi⟩ := key h
    exact Or.inl ⟨j, (Finset.mem_Ico.mp hj).1, (Finset.mem_Ico.mp hj).2, hg, hi⟩
  · obtain ⟨j, hj, hg, hi⟩ := key h
    exact Or.inr (Or.inl ⟨j, (Finset.mem_Ico.mp hj).1, (Finset.mem_Ico.mp hj).2, hg, hi⟩)
  · obtain ⟨j, hj, hg, hi⟩ := key (I := fun j => j) h
    exact Or.inr (Or.inr (Or.inl ⟨hi ▸ (Finset.mem_Ico.mp hj).1, hi ▸ (Finset.mem_Ico.mp hj).2, hg⟩))
  · obtain ⟨j, hj, hg, hi⟩ := key (I := fun j => j) h
    exact Or.inr (Or.inr (Or.inr ⟨hi ▸ (Finset.mem_Ico.mp hj).1, hi ▸ (Finset.mem_Ico.mp hj).2, hg⟩))

/-- The levels of all cells, known to every device. -/
def Lev : sProp 𝕄 := levAts L lv
instance Lev_persistent : BI.Persistent (Lev : sProp 𝕄) := by unfold Lev; infer_instance

/-- A wait at a level below every debt left is allowed. -/
theorem mayWait {c : Dev nD} {s : SemLoc sig} {ι a b x y : ℕ} (hι : ι < 16)
    (ha : a < 16 → lv ((c : Thread nD τ), s) ι < 10 * a + 5) (hb : b < 16 → lv ((c : Thread nD τ), s) ι < 10 * b + 7)
    (hx : x < 12 → lv ((c : Thread nD τ), s) ι < 10 * x + 6) (hy : y < 12 → lv ((c : Thread nD τ), s) ι < 10 * y + 28) :
    (Lev : sProp 𝕄) ⊢ MayWait (c : Thread nD τ) s ι (Odebt c a b x y) := by
  unfold Lev
  refine Pipeline.mayWait_of_levAts (by rw [L_tc]; exact Finset.mem_range.mpr hι) fun g i hg => ?_
  rcases Odebt_pos hg with ⟨j, h1, h2, rfl, rfl⟩ | ⟨j, h1, h2, rfl, rfl⟩ | ⟨h1, h2, rfl⟩ | ⟨h1, h2, rfl⟩
  · refine ⟨by unfold dcell; rw [L_tc]; exact Finset.mem_range.mpr (by omega), ?_⟩
    rw [lv_dma _ _ h2]; have := ha (by omega)
    show _ < if (3 : ℕ) = 3 then _ else _
    rw [if_pos rfl]; omega
  · refine ⟨by unfold dcell; rw [L_tc]; exact Finset.mem_range.mpr (by omega), ?_⟩
    rw [lv_dma _ _ h2]; have := hb (by omega)
    show _ < if (5 : ℕ) = 3 then _ else if (5 : ℕ) = 5 then _ else _
    rw [if_neg (by decide), if_pos rfl]; omega
  · refine ⟨by unfold cxCell; rw [L_tc]; exact Finset.mem_range.mpr (by omega), ?_⟩
    rw [lv_cx]; have := hx (by omega); omega
  · refine ⟨by unfold cyCell; rw [L_tc]; exact Finset.mem_range.mpr (by omega), ?_⟩
    rw [lv_cy]; have := hy (by omega); omega

end Cert.KernelIdeal
-- ==== Proof.Steps.lean ====
/-
# What each operation does to the state

The state of a device is a product of a few bundles.  A bundle `G a i w` belongs to one kind of copy: chunks
`w` to `i` are in flight, those from `i` on not issued, those before `w` awaited.  The lemmas here say how one
operation moves its bundles; they hold for every chunk.
-/
module

public import proofs.«01_k».proof.Proof.Base

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable (m : (ℓ : Loc nD τ sig) → Buf (Elt F) ℓ)

/-! ## Families over an interval of chunks -/

/-- One assertion for every chunk from `a` up to `b`. -/
def fam (a b : ℕ) (P : ℕ → sProp 𝕄) : sProp 𝕄 := bigSep (Finset.Ico a b) P

/-- A family with its first member taken out. -/
theorem fam_front {a b : ℕ} (h : a < b) (P : ℕ → sProp 𝕄) : fam a b P = iprop(P a ∗ fam (a + 1) b P) := by
  unfold fam
  rw [show Finset.Ico a b = insert a (Finset.Ico (a + 1) b) by ext x; simp only [Finset.mem_Ico, Finset.mem_insert]; omega,
    bigSep_insert (by simp)]
  rfl
/-- A family with its last member taken out. -/
theorem fam_back {a b : ℕ} (h : a ≤ b) (P : ℕ → sProp 𝕄) : fam a (b + 1) P = iprop(P b ∗ fam a b P) := by
  unfold fam
  rw [show Finset.Ico a (b + 1) = insert b (Finset.Ico a b) by ext x; simp only [Finset.mem_Ico, Finset.mem_insert]; omega,
    bigSep_insert (by simp)]
  rfl
/-- An empty family. -/
theorem fam_nil {a b : ℕ} (h : b ≤ a) (P : ℕ → sProp 𝕄) : fam a b P = iprop(emp) := by
  unfold fam
  rw [Finset.Ico_eq_empty (by omega)]; rfl

/-- One member of a family. -/
theorem bigSep_at {I : Type} [DecidableEq I] {s : Finset I} {i : I} (hi : i ∈ s) {Φ : I → sProp 𝕄} : bigSep s Φ ⊢ Φ i :=
  bigSep_elim hi

/-! ## What all devices know -/

/-- The cells, numbered: the copies' first, then the credit cells and the barrier. -/
def kcell (p : Dev nD × Fin 131) : GSem nD τ sig :=
  ((p.1 : Thread nD τ), if h : p.2.val < 128 then .dma (⟨p.2.val, h⟩ : Fin 128) else .reg (⟨p.2.val - 128, by omega⟩ : Fin 3))

/-- The memref the neighbour of direction `w` writes into. -/
abbrev ldM (w : Bool) : Memref sig .tc .vmem S4x512x1024 .f32 := if w then bY else bX
/-- The neighbour in direction `w`. -/
def pr (w : Bool) (c : Dev nD) : Dev nD := if w then yp c else xp c
/-- The credit cell of direction `w`. -/
abbrev cS (w : Bool) : Sem sig := if w then cyS else cxS
def cCell (w : Bool) (c : Dev nD) : GSem nD τ sig := ((c : Thread nD τ), .reg (cS w))

/-- The slot a key names. -/
def slotOf (k : Key) : sProp 𝕄 := free k.2.1 (slotM (ldM k.1) k.2.2.val)

instance slotOf_storable (k : Key) : Storable (upEmb : UEmb _ 𝕄) (slotOf (F := F) k) := by unfold slotOf; infer_instance

/-- The invariants of all cells and all slots, under names `κ` and `ι`, and the levels. -/
def Known (κ : GSem nD τ sig → ℕ) (ι : Key → ℕ) : sProp 𝕄 :=
  iprop(Lev
    ∗ bigSep (Finset.univ : Finset (Dev nD × Fin 131)) (fun p => iprop(cellInv ER (Rd m) (κ (kcell p)) (kcell p) ∗ reached ER (kcell p) 0))
    ∗ bigSep (Finset.univ : Finset Key) (fun k => Release.slotInv ES (ι k) k (slotOf k)))

instance Known_persistent (κ : GSem nD τ sig → ℕ) (ι : Key → ℕ) : BI.Persistent (Known m κ ι) := by unfold Known; infer_instance

variable (κ : GSem nD τ sig → ℕ) (ι : Key → ℕ)

/-- What the levels allow, all know. -/
theorem known_may {P : sProp 𝕄} (h : Lev ⊢ P) : Known m κ ι ⊢ P := by
  unfold Known; iintro ⟨H, -, -⟩; iapply h; iexact H
/-- What is known of one semaphore, by number. -/
theorem known_cell (p : Dev nD × Fin 131) :
    Known m κ ι ⊢ iprop(cellInv ER (Rd m) (κ (kcell p)) (kcell p) ∗ reached ER (kcell p) 0) := by
  unfold Known; iintro ⟨-, H, -⟩
  iapply (bigSep_at (Φ := fun p => iprop(cellInv ER (Rd m) (κ (kcell p)) (kcell p) ∗ reached ER (kcell p) 0)) (Finset.mem_univ p)) $$ H
/-- What is known of one slot. -/
theorem known_slot (k : Key) : Known m κ ι ⊢ Release.slotInv ES (ι k) k (slotOf k) := by
  unfold Known; iintro ⟨-, -, H⟩
  iapply (bigSep_at (Φ := fun k : Key => Release.slotInv ES (ι k) k (slotOf k)) (Finset.mem_univ k)) $$ H

set_option backward.proofsInPublic true in
/-- The number of a copy's semaphore. -/
theorem kcell_dma (c : Dev nD) (a : Fin 8) (k : ℕ) : kcell (c, ⟨16 * a.val + k % 16, by omega⟩) = dcell c a k :=
  congrArg (Prod.mk (c : Thread nD τ)) (dif_pos (show 16 * a.val + k % 16 < 128 by omega))
/-- The number of a credit semaphore. -/
theorem kcell_credit (w : Bool) (c : Dev nD) : kcell (c, if w then 129 else 128) = cCell w c := by
  revert w c; decide
/-- The number of the barrier. -/
theorem kcell_bar (c : Dev nD) : kcell (c, 130) = barCell c := by revert c; decide

/-- What is known of a copy's semaphore. -/
theorem known_dma (c : Dev nD) (a : Fin 8) (k : ℕ) :
    Known m κ ι ⊢ iprop(cellInv ER (Rd m) (κ (dcell c a k)) (dcell c a k) ∗ reached ER (dcell c a k) 0) := by
  have h := known_cell m κ ι (c, ⟨16 * a.val + k % 16, by omega⟩)
  rwa [kcell_dma] at h
/-- What is known of a credit semaphore. -/
theorem known_credit (w : Bool) (c : Dev nD) :
    Known m κ ι ⊢ iprop(cellInv ER (Rd m) (κ (cCell w c)) (cCell w c) ∗ reached ER (cCell w c) 0) := by
  have h := known_cell m κ ι (c, if w then 129 else 128)
  rwa [kcell_credit] at h
/-- What is known of the barrier. -/
theorem known_bar (c : Dev nD) :
    Known m κ ι ⊢ iprop(cellInv ER (Rd m) (κ (barCell c)) (barCell c) ∗ reached ER (barCell c) 0) := by
  have h := known_cell m κ ι (c, 130)
  rwa [kcell_bar] at h

/-! ## Triples -/

/-- On device `c`, knowing what all devices know, `p` turns `P` into `Q`. -/
def Tr (c : Dev nD) (P Q : sProp 𝕄) (p : K F) : Prop :=
  ∀ Φ : PUnit → sProp 𝕄, iprop(Known m κ ι ∗ P ∗ (Q -∗ Φ ⟨⟩))
    ⊢ wp frame (wpE (defs₀ (F := F)) 𝒱₀ (c : Thread nD τ) none) Set.univ p Φ

variable {m κ ι}
variable {c : Dev nD}

/-- Two stretches of the program, one after the other. -/
theorem Tr.seq {P Q R : sProp 𝕄} {p q : K F} (h : Tr m κ ι c P Q p) (h' : Tr m κ ι c Q R q) :
    Tr m κ ι c P R (p >>= fun _ => q) := fun Φ => by
  rw [wp_bind]
  iintro ⟨#HK, HP, HΦ⟩
  iapply (h _)
  isplitr; · iexact HK
  isplitl [HP]; · iexact HP
  iintro HQ
  iapply (h' _)
  isplitr; · iexact HK
  isplitl [HQ] <;> iassumption

/-- A stretch from more, to less. -/
theorem Tr.conseq {P P' Q Q' : sProp 𝕄} {p : K F} (h : Tr m κ ι c P Q p) (hP : P' ⊢ P) (hQ : Q ⊢ Q') : Tr m κ ι c P' Q' p := fun Φ => by
  iintro ⟨#HK, HP, HΦ⟩
  iapply (h _)
  isplitr; · iexact HK
  isplitl [HP]; · iapply hP; iexact HP
  iintro HQ
  iapply HΦ; iapply hQ; iexact HQ

/-- A stretch leaves alone what it does not use. -/
theorem Tr.frame {P Q : sProp 𝕄} (R : sProp 𝕄) {p : K F} (h : Tr m κ ι c P Q p) :
    Tr m κ ι c iprop(P ∗ R) iprop(Q ∗ R) p := fun Φ => by
  iintro ⟨#HK, ⟨HP, HR⟩, HΦ⟩
  iapply (h _)
  isplitr; · iexact HK
  isplitl [HP]; · iexact HP
  iintro HQ
  iapply HΦ
  isplitl [HQ] <;> iassumption

/-- A triple with its bundles taken from and returned into a larger state. -/
theorem Tr.within {P Q P' Q' : sProp 𝕄} (R : sProp 𝕄) {p : K F} (h : Tr m κ ι c P Q p) (hP : P' ⊢ iprop(P ∗ R)) (hQ : iprop(Q ∗ R) ⊢ Q') :
    Tr m κ ι c P' Q' p := (h.frame R).conseq hP hQ

/-- Nothing is done. -/
theorem Tr.skip {P Q : sProp 𝕄} (h : P ⊢ Q) : Tr m κ ι c P Q (pure ⟨⟩) := fun Φ => by
  rw [wp_pure]
  iintro ⟨-, HP, HΦ⟩
  imodintro
  iapply HΦ; iapply h; iexact HP

/-- A stretch that is run under a condition. -/
theorem Tr.when {P Q : sProp 𝕄} {q : K F} (b : Prop) [Decidable b] (h : b → Tr m κ ι c P Q q) (h' : ¬ b → (P ⊢ Q)) :
    Tr m κ ι c P Q (when b q) := by
  unfold Cert.KernelIdeal.when
  split
  · exact h ‹_›
  · exact Tr.skip (h' ‹_›)

/-! ## The bundles -/

variable (m)

/-- A debt, whatever has been waited for. -/
def owesE (c : Dev nD) (O : CellTallies nD τ sig ℕ) : sProp 𝕄 := iprop(∃ W, owes (c : Thread nD τ) O W)

/-- What issuing copy `a` of chunk `k` uses up besides the slots. -/
def extra (c : Dev nD) (a : Fin 8) (k : ℕ) : sProp 𝕄 :=
  match a with
  | 0 => holds c (sendM aX c k) fullShare (sv m c k)
  | 1 => holds c (keepM aX c k) fullShare (kv m c k)
  | 2 => iprop(Release.writeTok ES (key false (pr false c) k) (k / 4 + 1) ∗ dutyTok ER (dcell (pr false c) 3 k) 0 0)
  | 3 => iprop(emp)
  | 4 => iprop(Release.writeTok ES (key true (pr true c) k) (k / 4 + 1) ∗ dutyTok ER (dcell (pr true c) 5 k) 0 0)
  | 5 => iprop(emp)
  | 6 => free c (keepM aO c k)
  | 7 => free c (sendM aO c k)

/-- What awaiting it leaves for good. -/
def left (c : Dev nD) (a : Fin 8) (k : ℕ) : sProp 𝕄 :=
  match a with
  | 0 => holds c (sendM aX c k) fullShare (sv m c k)
  | 1 => holds c (keepM aX c k) fullShare (kv m c k)
  | 6 => holds c (keepM aO c k) fullShare (rv m c k)
  | 7 => holds c (sendM aO c k) fullShare (rv m (yp c) k)
  | _ => iprop(emp)

/-- And what it gives back for further use. -/
def rest (c : Dev nD) (a : Fin 8) (k : ℕ) : sProp 𝕄 :=
  match a with
  | 0 => holds c (slotM bS k) fullShare (sv m c k)
  | 1 => holds c (slotM bL k) fullShare (kv m c k)
  | 2 => holds c (slotM bS k) fullShare (sv m c k)
  | 3 => holds c (slotM bX k) fullShare (sv m (xp c) k)
  | 4 => holds c (slotM bR k) hl (rv m c k)
  | 5 => holds c (slotM bY k) fullShare (rv m (yp c) k)
  | 6 => holds c (slotM bR k) hr (rv m c k)
  | 7 => holds c (slotM bY k) fullShare (rv m (yp c) k)

/-- What a copy hands over is what it filled and what it read. -/
theorem dmaPay_split (c : Dev nD) (a : Fin 8) (k : ℕ) : dmaPay m c a k ⊢ iprop(rest m c a k ∗ left m c a k) := by
  have h : ∀ P : sProp 𝕄, P ⊢ iprop(P ∗ emp) := fun P => by iintro H; isplitl [H]; · iexact H
                                                            iempintro
  match a with
  | 0 => exact Idealize.SL.BI.Entails.refl _
  | 1 => exact Idealize.SL.BI.Entails.refl _
  | 2 => exact h _
  | 3 => exact h _
  | 4 => exact h _
  | 5 => exact h _
  | 6 => exact BI.sep_comm
  | 7 => exact BI.sep_comm

/-- The right to issue copy `a` of chunk `k`, its credit while in flight, its place before and after the wait. -/
def tk (c : Dev nD) (a : Fin 8) (k : ℕ) : sProp 𝕄 :=
  match a with
  | 3 => iprop(emp)
  | 5 => iprop(emp)
  | a => iprop(dutyTok ER (dcell c a k) 0 0 ∗ extra m c a k)
def pend (c : Dev nD) (a : Fin 8) (k : ℕ) : sProp 𝕄 := cred (tallyAt (dcell c a k) 0 N)
def ps (c : Dev nD) (a : Fin 8) (k : ℕ) : sProp 𝕄 := atPos ER (dcell c a k) 0 ∅ 0
def dn (c : Dev nD) (a : Fin 8) (k : ℕ) : sProp 𝕄 := iprop(atPos ER (dcell c a k) 1 ∅ 0 ∗ left m c a k)

/-- Copy kind `a` with the chunks before `i` issued and those before `w` awaited. -/
def G (c : Dev nD) (a : Fin 8) (i w : ℕ) : sProp 𝕄 :=
  iprop(fam i 16 (tk m c a) ∗ fam w i (pend c a) ∗ fam w 16 (ps c a) ∗ fam 0 w (dn m c a))

end Cert.KernelIdeal
-- ==== Proof.Ops.lean ====
/-
# The operations, for every kind of copy and every chunk

Awaiting a copy, issuing a copy on the device, issuing a copy to a neighbour, taking and giving a credit.
-/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-! ## Memory under a view -/

/-- What is held at some contents may be overwritten. -/
theorem holds_free {sp : Space} {s : Shape} {M : Memref sig .tc sp s .f32} {v : FVec F s .f32} :
    holds c M fullShare v ⊢ free c M := by
  unfold holds free Release.slot
  iintro ⟨%f, -, H⟩
  iexists f; iexact H

/-- Contents that read as `v` are held at `v`; -/
theorem holds_intro {sp : Space} {s : Shape} {M : Memref sig .tc sp s .f32} {q : PosShare TreeShare} {v : FVec F s .f32}
    {f : Buf (Elt F) (M.view.loc (c : Thread nD τ))} (h : M.view.read (Val := Elt F) f = v) :
    ((M.view.loc (c : Thread nD τ)) ↦[M.view.set]{q} f) ⊢ holds c M q v := by
  unfold holds
  iintro H
  iexists f; isplitr; · ipureintro; exact h
  iexact H

/-- so are contents written over with `v`. -/
theorem holds_landed {sp : Space} {s : Shape} {M : Memref sig .tc sp s .f32} {q : PosShare TreeShare} {v w : FVec F s .f32}
    {f : Buf (Elt F) (M.view.loc (c : Thread nD τ))} (h : w = v) :
    ((M.view.loc (c : Thread nD τ)) ↦[M.view.set]{q} (M.view.write (Elt F) f w Finset.univ)) ⊢ holds c M q v :=
  holds_intro ((View.read_write_univ f w).trans h)

/-- The two halves of a share come apart and together. -/
theorem holds_split {sp : Space} {s : Shape} {M : Memref sig .tc sp s .f32} {v : FVec F s .f32} :
    holds c M fullShare v ⊢ iprop(holds c M hl v ∗ holds c M hr v) := by
  unfold holds
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- Contents that read the same under a view are the same on its elements. -/
theorem read_inj {sp : Space} {s : Shape} (M : Memref sig .tc sp s .f32) {f g : Buf (Elt F) (M.view.loc (c : Thread nD τ))}
    (h : M.view.read (Val := Elt F) f = M.view.read (Val := Elt F) g) : ∀ i ∈ M.view.set, f i = g i := by
  intro i hi
  obtain ⟨x, -, rfl⟩ := Finset.mem_map.mp hi
  have := congrFun h x
  rw [View.read_apply, View.read_apply] at this
  exact (cast_bijective _).1 this

/-- Two halves of a share make the whole. -/
theorem holds_join {sp : Space} {s : Shape} {M : Memref sig .tc sp s .f32} {v : FVec F s .f32} :
    iprop(holds c M hl v ∗ holds c M hr v) ⊢ holds c M fullShare v := by
  unfold holds
  iintro ⟨⟨%f, %hf, H⟩, ⟨%g, %hg, H'⟩⟩
  ihave H' := (BIBase.Entails.of_eq (pointsTo_congr (read_inj M (hg.trans hf.symm)))) $$ H'
  iexists f; isplitr; · ipureintro; exact hf
  iapply (pointsTo_share (PosShare.mem_left_op_right fullShare)).2
  isplitl [H] <;> iassumption

/-! ## Moving a bundle -/

/-- One more copy of a kind is issued: what it takes comes out, and what is pending goes in. -/
theorem G_issue {a : Fin 8} {i w : ℕ} (hw : w ≤ i) (hi : i < 16) :
    G m c a i w ⊢ iprop(tk m c a i ∗ (pend c a i -∗ G m c a (i + 1) w)) := by
  unfold G
  rw [fam_front hi (tk m c a), fam_back hw]
  iintro ⟨⟨Ht, H1⟩, H2, H3, H4⟩
  isplitl [Ht]; · iexact Ht
  iintro Hp
  isplitl [H1]; · iexact H1
  isplitl [Hp H2]; · isplitl [Hp] <;> iassumption
  isplitl [H3] <;> iassumption

/-- One more copy of a kind is awaited: what is pending comes out, and what is done goes in. -/
theorem G_await {a : Fin 8} {i w : ℕ} (hw : w < i) (hi : i ≤ 16) :
    G m c a i w ⊢ iprop(pend c a w ∗ ps c a w ∗ (dn m c a w -∗ G m c a i (w + 1))) := by
  unfold G
  rw [fam_front hw (pend c a), fam_front (by omega : w < 16) (ps c a), fam_back (Nat.zero_le w)]
  iintro ⟨H1, ⟨Hp, H2⟩, ⟨Hs, H3⟩, H4⟩
  isplitl [Hp]; · iexact Hp
  isplitl [Hs]; · iexact Hs
  iintro Hd
  isplitl [H1]; · iexact H1
  isplitl [H2]; · iexact H2
  isplitl [H3]; · iexact H3
  isplitl [Hd] <;> iassumption

/-! ## Awaiting a copy -/

/-- Waiting for a copy of any kind, at any chunk. -/
theorem tr_await {a : Fin 8} {i w : ℕ} {sp sp' : Space} {s s' : Shape} {e e' : EltTy} {sem : DmaSem sig}
    {src : Memref sig .tc sp' s' e'} {dst : Memref sig .tc sp s e} {hsrc : src.view.WordExact} {hdst : dst.view.WordExact}
    (hs : sem = dq a w) (hN : dst.view.dmaCredit = N) (hw : w < i) (hi : i ≤ 16) {O : CellTallies nD τ sig ℕ}
    (hm : (Lev : sProp 𝕄) ⊢ MayWait (c : Thread nD τ) (.dma (dq a w)) 0 O) :
    Tr m κ ι c iprop(owesE c O ∗ G m c a i w) iprop(owesE c O ∗ rest m c a w ∗ G m c a i (w + 1))
      (Prog.lift (.waitDma2 sem src dst hsrc hdst)) := fun Φ => by
  subst hs
  unfold owesE
  iintro ⟨#HK, ⟨⟨%W, HO⟩, HG⟩, HΦ⟩
  ihave HG := (G_await hw hi) $$ HG
  icases HG with ⟨Hc, Hat, HG⟩
  ihave Hcell := (known_dma (F := F) m κ ι c a w) $$ HK
  icases Hcell with ⟨#Hinv, -⟩
  unfold pend ps
  iapply (Rounds.wp_wait_rest_token 𝒱₀ ER (Rd m) (c : Thread nD τ) none (κ := κ (dcell c a w)) (sm := .dma (dq a w)) (k' := N)
      (fun Kt => (wpE_waitDma2_eq 𝒱₀ (c : Thread nD τ) none Set.univ Kt).trans (by rw [hN])) (Set.mem_univ _) 0 (O := O) (W := W) (R := 0) (m := 0) (T := ∅)
      (by rw [Nat.zero_add]; exact (expect_dma m c a w).symm)) $$ [Hc HO Hat]
  · isplitr; · iexact Hinv
    isplitl [Hc]; · iexact Hc
    isplitl [HO]; · iexact HO
    isplitr; · iapply (known_may m κ ι hm); iexact HK
    iexact Hat
  iintro ⟨HO, Hat, -, Hpay⟩
  have hpay : bigSep ((Rd m).duties ((c : Thread nD τ), .dma (dq a w)) 0 \ ∅) (fun d => (Rd m).payload ((c : Thread nD τ), .dma (dq a w)) 0 d)
      ⊢ iprop(rest m c a w ∗ left m c a w) := by
    refine (BIBase.Entails.of_eq ?_).trans (dmaPay_split m c a w)
    rw [Finset.sdiff_empty]
    show bigSep ((Rd m).duties (dcell c a w) 0) (fun d => (Rd m).payload (dcell c a w) 0 d) = _
    rw [duties_dma, bigSep_singleton, payload_dma m c a (by omega)]
  ihave Hpay := hpay $$ Hpay
  icases Hpay with ⟨Hr, Hl⟩
  rw [wp_ret]; imodintro
  iapply HΦ
  isplitl [HO]; · iexists _; iexact HO
  isplitl [Hr]; · iexact Hr
  iapply HG
  unfold dn
  isplitl [Hat]; · iexact Hat
  iexact Hl

/-! ## Issuing a copy on the device -/

/-- Issuing a local copy of any kind, at any chunk. -/
theorem tr_copy {a : Fin 8} {i w : ℕ} {sp sp' : Space} {s : Shape} {sem : DmaSem sig}
    {src : Memref sig .tc sp s .f32} {dst : Memref sig .tc sp' s .f32} {hsrc : src.view.WordExact} {hdst : dst.view.WordExact}
    {hsem : DmaTarget.Typed (nD := nD) (τ := τ) (p := .tc) sp (.dma sem) (.here dst)}
    (hs : sem = dq a i) (hN : dst.view.dmaCredit = N) (hw : w ≤ i) (hi : i < 16) {q : PosShare TreeShare} {v : FVec F s .f32} {X : sProp 𝕄}
    (hpre : iprop(X ∗ tk m c a i) ⊢ iprop(dutyTok ER (dcell c a i) 0 0 ∗ holds c src q v ∗ free c dst))
    (hpay : iprop(holds c dst fullShare v ∗ holds c src q v) ⊢ dmaPay m c a i) :
    Tr m κ ι c iprop(X ∗ G m c a i w) (G m c a (i + 1) w) (Prog.lift (.enqueueDma src (.here dst) (.dma sem) hsrc hdst hsem)) := fun Φ => by
  subst hs
  iintro ⟨#HK, ⟨HX, HG⟩, HΦ⟩
  ihave HG := (G_issue hw hi) $$ HG
  icases HG with ⟨Ht, HG⟩
  ihave Hp := hpre $$ [HX Ht]
  · isplitl [HX] <;> iassumption
  unfold holds free Release.slot
  icases Hp with ⟨Ht, ⟨%fs, %hfs, Hs⟩, ⟨%fd, Hd⟩⟩
  ihave Hcell := (known_dma (F := F) m κ ι c a i) $$ HK
  icases Hcell with ⟨#Hinv, #Hr⟩
  iapply (Rounds.wp_copy_pointsTo 𝒱₀ ER (Rd m) (c : Thread nD τ) none (src := src) (dst := dst) (sem := .dma (dq a i)) (κ := κ (dcell c a i)) (r := 0) (d := 0)
      (fs := fs) (fd := fd) (q := q) (by rw [show (((c : Thread nD τ), SemLoc.dma (dq a i)) : GSem nD τ sig) = dcell c a i from rfl, duties_dma]; exact Finset.mem_singleton_self _)
      0 N ((View.amount_dma _ _).trans hN) (amount_dma m _ _ _ _)
      (by
        refine BIBase.Entails.trans ?_ (hpay.trans (BIBase.Entails.of_eq (payload_dma m c a hi 0 0).symm))
        exact BI.sep_mono (holds_landed hfs) (holds_intro hfs))) $$ [Hs Hd Ht]
  · isplitr; · iexact Hinv
    isplitl [Hs]; · iexact Hs
    isplitl [Hd]; · iexact Hd
    isplitl [Ht]; · iexact Ht
    iexact Hr
  iintro Hc
  rw [wp_ret]; imodintro
  iapply HΦ
  iapply HG
  unfold pend; iexact Hc

/-! ## Issuing a copy to a neighbour -/

/-- Issuing a remote copy in either direction, at any chunk. -/
theorem tr_send {a b : Fin 8} {i w : ℕ} {d : Dev nD} {sp sp' : Space} {s : Shape} {sem sem' : DmaSem sig}
    {src : Memref sig .tc sp s .f32} {dst : Memref sig .tc sp' s .f32} {hsc : dst.view.ref.isScScratch = false} {hsrc : src.view.WordExact} {hdst : dst.view.WordExact}
    {hsem : DmaTarget.Typed (nD := nD) (τ := τ) (p := .tc) sp (.dma sem') (.remote (Dev.tc d) dst (.dma sem) hsc)}
    (hs : sem = dq a i) (hs' : sem' = dq b i) (hN : dst.view.dmaCredit = N) (hw : w ≤ i) (hi : i < 16) {q : PosShare TreeShare} {v : FVec F s .f32} {X : sProp 𝕄}
    {O O' : CellTallies nD τ sig ℕ} (hO : O = O' + tallyAt (dcell d b i) 0 N)
    (hpre : iprop(Known m κ ι ∗ X ∗ tk m c a i)
      ⊢ iprop(|={Set.univ}=> (dutyTok ER (dcell c a i) 0 0 ∗ dutyTok ER (dcell d b i) 0 0 ∗ holds c src q v ∗ free d dst)))
    (hpay : holds c src q v ⊢ dmaPay m c a i) (hpay' : holds d dst fullShare v ⊢ dmaPay m d b i) :
    Tr m κ ι c iprop(owesE c O ∗ X ∗ G m c a i w) iprop(owesE c O' ∗ G m c a (i + 1) w)
      (Prog.lift (.enqueueDma src (.remote (Dev.tc d) dst (.dma sem) hsc) (.dma sem') hsrc hdst hsem)) := fun Φ => by
  subst hs hs'
  unfold owesE
  iintro ⟨#HK, ⟨⟨%W, HO⟩, HX, HG⟩, HΦ⟩
  ihave HG := (G_issue hw hi) $$ HG
  icases HG with ⟨Ht, HG⟩
  imod hpre $$ [HX Ht] with Hp
  · isplitr; · iexact HK
    isplitl [HX] <;> iassumption
  unfold holds free Release.slot
  icases Hp with ⟨Ht, Ht', ⟨%fs, %hfs, Hs⟩, ⟨%fd, Hd⟩⟩
  ihave Hcell := (known_dma (F := F) m κ ι c a i) $$ HK
  icases Hcell with ⟨#Hinv, #Hr⟩
  ihave Hcell := (known_dma (F := F) m κ ι d b i) $$ HK
  icases Hcell with ⟨#Hinv', #Hr'⟩
  iapply (Rounds.wp_send_pointsTo 𝒱₀ ER (Rd m) (c : Thread nD τ) none (c' := (d : Thread nD τ)) (src := src) (dst := dst) (sS := .dma (dq a i)) (sem := .dma (dq b i))
      (κ₁ := κ (dcell c a i)) (κ₂ := κ (dcell d b i)) (r₁ := 0) (d₁ := 0) (r₂ := 0) (d₂ := 0)
      (fs := fs) (fd := fd) (q := q) (by rw [show (((c : Thread nD τ), SemLoc.dma (dq a i)) : GSem nD τ sig) = dcell c a i from rfl, duties_dma]; exact Finset.mem_singleton_self _)
      (by rw [show (((d : Thread nD τ), SemLoc.dma (dq b i)) : GSem nD τ sig) = dcell d b i from rfl, duties_dma]; exact Finset.mem_singleton_self _)
      0 0 N ((View.amount_dma _ _).trans hN) (amount_dma m _ _ _ _) (amount_dma m _ _ _ _) O' hO
      (by
        refine BIBase.Entails.trans ?_ (hpay.trans (BIBase.Entails.of_eq (payload_dma m c a hi 0 0).symm))
        exact holds_intro hfs)
      (by
        refine BIBase.Entails.trans ?_ (hpay'.trans (BIBase.Entails.of_eq (payload_dma m d b hi 0 0).symm))
        exact holds_landed hfs)) $$ [Hs Hd HO Ht Ht']
  · isplitr; · iexact Hinv
    isplitr; · iexact Hinv'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]; imodintro
  iapply HΦ
  isplitl [HO]; · iexists _; iexact HO
  iapply HG
  unfold pend; iexact Hc

end Cert.KernelIdeal
-- ==== Proof.Credits.lean ====
/-
# Taking and giving credits

A credit tells the neighbour that a landing slot has been read.  Twelve go each way; the order in which they
arrive is not known, but after n of them one is known to be at least the n-th.
-/
module

public import proofs.«01_k».proof.Proof.Ops

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-! ## The credit cells, for either direction -/

/-- A credit semaphore is paid by twelve duties, in either direction. -/
theorem duties_credit (w : Bool) (c : Dev nD) : (Rd m).duties (cCell w c) 0 = Finset.range 12 := by
  cases w
  · exact duties_cx m c
  · exact duties_cy m c
/-- It is owed twelve in all. -/
theorem expect_credit (w : Bool) (c : Dev nD) : (Rd m).expect (cCell w c) 0 = 12 := by
  cases w
  · exact expect_cx m c
  · exact expect_cy m c
/-- What arrives with a credit, in either direction. -/
theorem payload_credit (w : Bool) (c : Dev nD) (d : ℕ) : (Rd m).payload (cCell w c) 0 d = credPay w (pr w c) d := by
  cases w
  · exact payload_cx m c 0 d
  · exact payload_cy m c 0 d
/-- A neighbour's neighbour in the same direction is the device itself. -/
theorem pr_pr (w : Bool) (c : Dev nD) : pr w (pr w c) = c := by
  cases w
  · exact xp_xp c
  · exact yp_yp c

instance ready_persistent (w : Bool) (d : Dev nD) (k : ℕ) : BI.Persistent (ready (F := F) w d k) := by unfold ready; infer_instance
instance credPay_persistent (w : Bool) (d : Dev nD) (k : ℕ) : BI.Persistent (credPay (F := F) w d k) := by unfold credPay; infer_instance

/-- A later credit tells what an earlier one does. -/
theorem credPay_at (w : Bool) (d : Dev nD) {n r : ℕ} (h : n ≤ r) : credPay (F := F) w d r ⊢ ready w d (n + 4) := by
  unfold credPay
  exact bigSep_at (Φ := fun i => ready (F := F) w d (i + 4)) (Finset.mem_range.mpr (by omega))

/-! ## Taking credits -/

/-- The place in the credit cell after `n` credits taken: whichever credits they were, there are at least `n`. -/
def taken (w : Bool) (c : Dev nD) (n : ℕ) : sProp 𝕄 :=
  if n < 12 then iprop(∃ T : Finset ℕ, ⌜T ⊆ Finset.range 12 ∧ n ≤ T.card⌝ ∗ atPos ER (cCell w c) 0 T n ∗ bigSep T (fun j => credPay (F := F) w (pr w c) j))
  else atPos ER (cCell w c) 1 ∅ 0

/-- Credits before `n` taken, the later ones to come. -/
def Take (w : Bool) (c : Dev nD) (n : ℕ) : sProp 𝕄 := iprop(fam n 12 (fun j => cred (tallyAt (cCell w c) j 1)) ∗ taken w c n)

/-- Among `n + 1` of the twelve credits one tells that the slot of chunk `n + 4` is released. -/
theorem taken_tells {w : Bool} {d : Dev nD} {n : ℕ} {T S : Finset ℕ} (hTS : T ⊆ S) (hS : S ⊆ Finset.range 12) (hn : n + 1 ≤ S.card) :
    iprop(bigSep T (fun j => credPay (F := F) w d j) ∗ bigSep (S \ T) (fun j => credPay (F := F) w d j))
      ⊢ iprop(ready w d (n + 4) ∗ bigSep S (fun j => credPay (F := F) w d j)) := by
  have hex : ∃ r ∈ S, n ≤ r := by
    by_contra h
    push Not at h
    have : S ⊆ Finset.range n := fun r hr => Finset.mem_range.mpr (h r hr)
    have := Finset.card_le_card this
    rw [Finset.card_range] at this
    omega
  obtain ⟨r, hr, hnr⟩ := hex
  have hu : iprop(bigSep T (fun j => credPay (F := F) w d j) ∗ bigSep (S \ T) (fun j => credPay (F := F) w d j)) ⊢ bigSep S (fun j => credPay (F := F) w d j) := by
    conv_rhs => rw [← Finset.union_sdiff_of_subset hTS]
    exact BIBase.Entails.of_eq (bigSep_union Finset.disjoint_sdiff).symm
  iintro H
  ihave #H := hu $$ H
  isplitr
  · iapply (credPay_at w d hnr)
    iapply (bigSep_at (Φ := fun j => credPay (F := F) w d j) hr); iexact H
  iexact H

/-- Taking credit `n` tells that the neighbour's slot of chunk `n + 4` is released. -/
theorem tr_take {w : Bool} {n : ℕ} (hn : n < 12) {O : CellTallies nD τ sig ℕ}
    (hm : (Lev : sProp 𝕄) ⊢ MayWait (c : Thread nD τ) (.reg (cS w)) n O) :
    Tr m κ ι c iprop(owesE c O ∗ Take w c n) iprop(owesE c O ∗ ready w (pr w c) (n + 4) ∗ Take w c (n + 1))
      (semWaitWord (cS w) 1#32) := fun Φ => by
  unfold owesE Take
  rw [fam_front hn, show taken (F := F) w c n = _ from if_pos hn]
  iintro ⟨#HK, ⟨⟨%W, HO⟩, ⟨Hc, Hf⟩, ⟨%T, %hT, Hat, HT⟩⟩, HΦ⟩
  ihave Hcell := (known_credit (F := F) m κ ι w c) $$ HK
  icases Hcell with ⟨#Hinv, -⟩
  have hsd : ∀ S : Finset ℕ, bigSep (S \ T) (fun d => (Rd m).payload ((c : Thread nD τ), .reg (cS w)) 0 d)
      ⊢ bigSep (S \ T) (fun j => credPay (F := F) w (pr w c) j) := fun S =>
    BIBase.Entails.of_eq (congrArg (bigSep (S \ T)) (funext fun d => payload_credit w c d))
  by_cases h11 : n + 1 < 12
  · unfold semWaitWord
    iapply (Rounds.wp_wait 𝒱₀ ER (Rd m) (c : Thread nD τ) none (κ := κ (cCell w c)) (sm := .reg (cS w)) (k' := 1)
      (fun K => wpE_semWait_eq 𝒱₀ (c : Thread nD τ) none Set.univ K) (Set.mem_univ _) (cr := Finsupp.single n 1) {(.reg (cS w), n)} (O := O) (W := W)
      (by rw [Util.total_single]) (image_single_subset _ _ _)) $$ [Hc HO Hat]
    · isplitr; · iexact Hinv
      isplitl [Hc]; · iexact Hc
      isplitl [HO]; · iexact HO
      isplitr
      · iapply (known_may m κ ι hm); iexact HK
      iexact Hat
    iintro %S ⟨%hS, HO, Hat, Hpay⟩
    have hcard : n + 1 ≤ S.card := by
      have h3 := hS.2.2
      rw [show (((c : Thread nD τ), SemLoc.reg (cS w)) : GSem nD τ sig) = cCell w c from rfl, duties_credit, expect_credit] at h3
      have h4 := hS.2.1
      rw [show (((c : Thread nD τ), SemLoc.reg (cS w)) : GSem nD τ sig) = cCell w c from rfl, duties_credit] at h4
      have := Finset.card_sdiff_add_card_eq_card h4
      rw [Finset.card_range] at this
      omega
    have hsub : S ⊆ Finset.range 12 := by
      have h4 := hS.2.1
      rwa [show (((c : Thread nD τ), SemLoc.reg (cS w)) : GSem nD τ sig) = cCell w c from rfl, duties_credit] at h4
    ihave Hpay := (hsd S) $$ Hpay
    ihave H := (taken_tells hS.1 hsub hcard) $$ [HT Hpay]
    · isplitl [HT] <;> iassumption
    icases H with ⟨Hr, HS⟩
    rw [wp_ret]; imodintro
    iapply HΦ
    isplitl [HO]; · iexists _; iexact HO
    isplitl [Hr]; · iexact Hr
    isplitl [Hf]; · iexact Hf
    rw [show taken (F := F) w c (n + 1) = _ from if_pos h11]
    iexists S
    isplitr; · ipureintro; exact ⟨hsub, hcard⟩
    isplitl [Hat]; · iexact Hat
    iexact HS
  · unfold semWaitWord
    iapply (Rounds.wp_wait_rest_token 𝒱₀ ER (Rd m) (c : Thread nD τ) none (κ := κ (cCell w c)) (sm := .reg (cS w)) (k' := 1)
      (fun K => wpE_semWait_eq 𝒱₀ (c : Thread nD τ) none Set.univ K) (Set.mem_univ _) n (O := O) (W := W) (R := 0) (m := n) (T := T)
      (by rw [show (((c : Thread nD τ), SemLoc.reg (cS w)) : GSem nD τ sig) = cCell w c from rfl, expect_credit]; omega)) $$ [Hc HO Hat]
    · isplitr; · iexact Hinv
      isplitl [Hc]; · iexact Hc
      isplitl [HO]; · iexact HO
      isplitr
      · iapply (known_may m κ ι hm); iexact HK
      iexact Hat
    iintro ⟨HO, Hat, -, Hpay⟩
    ihave Hpay := (hsd _) $$ Hpay
    rw [show (Rd m).duties ((c : Thread nD τ), .reg (cS w)) 0 = Finset.range 12 from duties_credit w c]
    ihave H := (taken_tells (n := n) hT.1 (Finset.Subset.refl _) (by rw [Finset.card_range]; omega)) $$ [HT Hpay]
    · isplitl [HT] <;> iassumption
    icases H with ⟨Hr, -⟩
    rw [wp_ret]; imodintro
    iapply HΦ
    isplitl [HO]; · iexists _; iexact HO
    isplitl [Hr]; · iexact Hr
    isplitl [Hf]; · iexact Hf
    rw [show taken (F := F) w c (n + 1) = _ from if_neg h11]
    iexact Hat

/-! ## Giving credits -/

/-- Views of slots depend on the chunk only through the slot. -/
theorem slotM_congr (b : Memref sig .tc .vmem S4x512x1024 .f32) {k j : ℕ} (h : k % 4 = j % 4) : slotM b k = slotM b j := by
  have : ∀ x y (hx : ∀ a, (![x, 0, 0] : Fin 3 → Nat) a + S1x512x1024.size a ≤ S4x512x1024.size a)
      (hy : ∀ a, (![y, 0, 0] : Fin 3 → Nat) a + S1x512x1024.size a ≤ S4x512x1024.size a), x = y →
      (b.slice (Rect.unit (s := S4x512x1024) ![x, 0, 0] S1x512x1024.size hx) (fun _ => rfl)).squeeze S512x1024 squeezes_S1x512x1024_S512x1024
      = (b.slice (Rect.unit (s := S4x512x1024) ![y, 0, 0] S1x512x1024.size hy) (fun _ => rfl)).squeeze S512x1024 squeezes_S1x512x1024_S512x1024 := by
    rintro x y hx hy rfl; rfl
  exact this _ _ _ _ h

/-- The slot that a chunk's key names, free. -/
theorem slotOf_key (w : Bool) (d : Dev nD) (k : ℕ) : slotOf (F := F) (key w d k) = free d (slotM (ldM w) k) := by
  show free d (slotM (ldM w) (k % 4)) = _
  rw [slotM_congr (ldM w) (by omega : k % 4 % 4 = k % 4)]

/-- Chunks four apart have the same slot. -/
theorem key_add (w : Bool) (d : Dev nD) (k : ℕ) : key w d (k + 4) = key w d k := by
  exact congrArg (fun x => (w, d, x)) (Fin.ext (Nat.add_mod_right k 4))

/-- A slot is not free twice. -/
theorem slotOf_excl (k : Key) : iprop(slotOf (F := F) k ∗ slotOf k) ⊢ (False : sProp 𝕄) := by
  unfold slotOf free
  exact Release.slot_slot_false ⟨_, Finset.mem_map.mpr ⟨(fun a => ⟨0, by revert a; decide⟩ : S512x1024.Idx), Finset.mem_univ _, rfl⟩⟩

/-- Credits before `n` given, the later ones still to give. -/
def Give (w : Bool) (c : Dev nD) (n : ℕ) : sProp 𝕄 :=
  iprop(fam n (n + 4) (fun j => Release.readerAt ES (key w c j) (j / 4 + 1)) ∗ fam n 12 (fun j => dutyTok ER (cCell w (pr w c)) 0 j)
    ∗ bigSep (Finset.range n) (fun i => ready (F := F) w c (i + 4)))

/-- Releasing the slot of chunk `n` gives the neighbour credit `n`. -/
theorem tr_give {w : Bool} {n : ℕ} (hn : n < 12) {O O' : CellTallies nD τ sig ℕ} (hO : O = O' + tallyAt (cCell w (pr w c)) n 1) :
    Tr m κ ι c iprop(owesE c O ∗ free c (slotM (ldM w) n) ∗ Give w c n) iprop(owesE c O' ∗ Give w c (n + 1))
      (semSignalWord (pr w c) (cS w) 1#32) := fun Φ => by
  unfold owesE Give
  rw [fam_front (by omega : n < n + 4), fam_front hn, show n + 1 + 4 = (n + 4) + 1 by omega, fam_back (by omega : n + 1 ≤ n + 4), ← slotOf_key]
  iintro ⟨#HK, ⟨⟨%W, HO⟩, Hs, ⟨Hr, Hrs⟩, ⟨Ht, Hts⟩, #Hk⟩, HΦ⟩
  ihave Hcell := (known_credit (F := F) m κ ι w (pr w c)) $$ HK
  icases Hcell with ⟨#Hinv, #Hre⟩
  ihave #Hsl := (known_slot (F := F) m κ ι (key w c n)) $$ HK
  imod (Release.slot_release ES (Set.mem_univ _) (slotOf_excl (key w c n)) (n / 4 + 1)) $$ [Hr Hs] with ⟨Hr, #Hrel⟩
  · isplitr; · iexact Hsl
    isplitl [Hr] <;> iassumption
  have hex : iprop(ready w c (n + 4) ∗ bigSep (Finset.range n) (fun i => ready (F := F) w c (i + 4))) ⊢ bigSep (Finset.range (n + 1)) (fun i => ready (F := F) w c (i + 4)) := by
    rw [Finset.range_add_one, bigSep_insert Finset.notMem_range_self]; exact Idealize.SL.BI.Entails.refl _
  have e4 : (n + 4) / 4 = n / 4 + 1 := by omega
  have hrd : Release.released ES (key w c n) (n / 4 + 1 + 1) ⊢ (ready (F := F) w c (n + 4)) := by
    unfold ready; rw [key_add, e4]
  ihave #Hrd := hrd $$ Hrel
  ihave #Hall := hex $$ []
  · isplitr <;> iassumption
  unfold semSignalWord
  iapply (Rounds.wp_signal 𝒱₀ ER (Rd m) (c : Thread nD τ) none (dst := (pr w c : Thread nD τ)) (sem := cS w) (r := 0) (d := n) (k' := 1) (κ := κ (cCell w (pr w c)))
    (by rw [show (((pr w c : Thread nD τ), SemLoc.reg (cS w)) : GSem nD τ sig) = cCell w (pr w c) from rfl, duties_credit]; exact Finset.mem_range.mpr hn)
    (amount_reg m _ _ _ _) n O' hO) $$ [HO Ht]
  · isplitr; · iexact Hinv
    isplitl [HO]; · iexact HO
    isplitl [Ht]; · iexact Ht
    isplitr
    · rw [show (Rd m).payload ((pr w c : Thread nD τ), .reg (cS w)) 0 n = credPay w c n from by
        rw [← pr_pr w c]; exact (payload_credit w (pr w (pr w (pr w c))) n).trans (by rw [pr_pr])]
      unfold credPay
      iexact Hall
    iexact Hre
  iintro HO
  rw [wp_ret]; imodintro
  iapply HΦ
  isplitl [HO]; · iexists _; iexact HO
  isplitl [Hr Hrs]
  · isplitl [Hr]
    · rw [key_add, e4]; iexact Hr
    iexact Hrs
  isplitl [Hts]; · iexact Hts
  iexact Hall

end Cert.KernelIdeal
-- ==== Proof.AddUp.lean ====
/-
# The sum of two chunks

Three loads and a store through the vector unit; the slots are read and written as rectangles of four-slot
buffers, and held as planes.
-/
module

public import proofs.«01_k».proof.Proof.Ops

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-! ## A slot as a plane and as the rectangle the vector unit reads -/

/-- A slot has the same elements as one memref and as one rectangle of the buffer. -/
theorem slot_set (b : Memref sig .tc .vmem S4x512x1024 .f32) (k : ℕ) : (slotM b k).view.set = (b.access (slotR k)).set :=
  View.set_reshape _ _

/-- Reading a slot as a memref is reading its rectangle and dropping the leading axis of size one. -/
theorem slot_read (b : Memref sig .tc .vmem S4x512x1024 .f32) (k : ℕ) (f : (slotM b k).view.ty.Contents (Elt F)) :
    (slotM b k).view.read (Elt F) f = shapeCast S512x1024 ((b.access (slotR k)).read (Elt F) f) shapeCasts_S1x512x1024_S512x1024 := rfl

/-- A load of a slot held at `v` gives `v`, as the rectangle. -/
theorem load_slot {b : Memref sig .tc .vmem S4x512x1024 .f32} {k : ℕ} {v : FVec F S512x1024 .f32} {Φ : Vec F S1x512x1024 .f32 → sProp 𝕄} :
    iprop(holds c (slotM b k) fullShare v ∗ (∀ a, ⌜shapeCast S512x1024 a shapeCasts_S1x512x1024_S512x1024 = v⌝ -∗ holds c (slotM b k) fullShare v -∗ Φ a))
      ⊢ wp frame (wpE (defs₀ (F := F)) 𝒱₀ (c : Thread nD τ) none) Set.univ (loadB b k) Φ := by
  unfold holds loadB
  iintro ⟨⟨%f, %hf, H⟩, HΦ⟩
  iapply (wp_load_rect 𝒱₀ (c : Thread nD τ) none Set.univ (m := b) (r := slotR k) (S := (slotM b k).view.set) (q := fullShare) (f := f)
    (by rw [slot_set])) $$ H
  iintro H
  rw [wp_ret]; imodintro
  iapply HΦ
  · ipureintro; rw [← hf]; exact (slot_read b k f).symm
  iexists f; isplitr; · ipureintro; exact hf
  iexact H

/-- The same for a slot at any contents. -/
theorem load_any {b : Memref sig .tc .vmem S4x512x1024 .f32} {k : ℕ} {Φ : Vec F S1x512x1024 .f32 → sProp 𝕄} :
    iprop(free c (slotM b k) ∗ (∀ a, free c (slotM b k) -∗ Φ a))
      ⊢ wp frame (wpE (defs₀ (F := F)) 𝒱₀ (c : Thread nD τ) none) Set.univ (loadB b k) Φ := by
  unfold free Release.slot loadB
  iintro ⟨⟨%f, H⟩, HΦ⟩
  iapply (wp_load_rect 𝒱₀ (c : Thread nD τ) none Set.univ (m := b) (r := slotR k) (S := (slotM b k).view.set) (q := fullShare) (f := f)
    (by rw [slot_set])) $$ H
  iintro H
  rw [wp_ret]; imodintro
  iapply HΦ
  iexists f
  iexact H

/-- What a slot reads as after a store into it. -/
theorem slot_stored {k : ℕ} {w : FVec F S1x512x1024 .f32} (f : (slotM bR k).view.ty.Contents (Elt F)) :
    (slotM bR k).view.read (Elt F) ((bR.access (slotR k)).write (Elt F) f w Finset.univ) = shapeCast S512x1024 w shapeCasts_S1x512x1024_S512x1024 := by
  rw [slot_read, View.read_write_univ]

/-- A store into the slot of the reduced chunks stays inside that slot. -/
theorem store_sub (k : ℕ) : (bR.access (slotR k)).setOn Finset.univ ⊆ (slotM bR k).view.set := by
  rw [slot_set]; exact Finset.Subset.refl _

/-- A store into a slot. -/
theorem store_slot {k : ℕ} {w : FVec F S1x512x1024 .f32} {v : FVec F S512x1024 .f32}
    (hv : shapeCast S512x1024 w shapeCasts_S1x512x1024_S512x1024 = v) {Φ : PUnit → sProp 𝕄} :
    iprop(free c (slotM bR k) ∗ (holds c (slotM bR k) fullShare v -∗ Φ ⟨⟩))
      ⊢ wp frame (wpE (defs₀ (F := F)) 𝒱₀ (c : Thread nD τ) none) Set.univ (storeR k w) Φ := by
  unfold free Release.slot storeR
  iintro ⟨⟨%f, H⟩, HΦ⟩
  iapply (wp_store 𝒱₀ (c : Thread nD τ) none Set.univ (m := bR) (r := slotR k) (w := w) (Mk := Finset.univ) (S := (slotM bR k).view.set) (f := f)
    (store_sub k)) $$ H
  iintro H
  rw [wp_ret]; imodintro
  iapply HΦ
  iapply (holds_intro ((slot_stored f).trans hv))
  iexact H

/-- The sum of the own chunk and the chunk received, stored over the slot of sums. -/
theorem tr_addUp {k : ℕ} :
    Tr m κ ι c iprop(rest m c 1 k ∗ rest m c 3 k ∗ free c (slotM bR k))
      iprop(holds c (slotM bR k) fullShare (rv m c k) ∗ free c (slotM bL k) ∗ free c (slotM bX k)) (addUp k) := fun Φ => by
  unfold rest addUp
  iintro ⟨-, ⟨HL, HX, HR⟩, HΦ⟩
  rw [wp_bind]
  iapply load_slot
  isplitl [HL]; · iexact HL
  iintro %a %ha HL
  rw [wp_bind]
  iapply load_slot
  isplitl [HX]; · iexact HX
  iintro %b %hb HX
  rw [wp_bind]
  iapply load_any
  isplitl [HR]; · iexact HR
  iintro %x HR
  iapply (store_slot (v := rv m c k) (by
    unfold rv
    rw [← ha, ← hb]
    funext i
    show addf _ _ (Shape.reshapeEquiv _ (Shape.reshapeEquiv _ i)) = _
    rw [Shape.reshapeEquiv_reshapeEquiv, Shape.reshapeEquiv_self]))
  isplitl [HR]; · iexact HR
  iintro HR
  iapply HΦ
  isplitl [HR]; · iexact HR
  isplitl [HL]
  · iapply holds_free; iexact HL
  iapply holds_free; iexact HX

end Cert.KernelIdeal
-- ==== Proof.Kinds.lean ====
/-
# The operations of this kernel

Every operation of the pipeline, at any chunk, moves the bundle of its kind of copy by one.
-/
module

public import proofs.«01_k».proof.Proof.Credits
public import proofs.«01_k».proof.Proof.AddUp
public import Mathlib.Algebra.BigOperators.Intervals
public import Mathlib.Tactic.Abel

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-! ## The semaphores and the amounts -/

/-- The semaphore of a chunk depends on the chunk's number up to sixteen. -/
theorem semM_congr (a : DmaSems sig S16) {k j : ℕ} (h : k % 16 = j % 16) : (semM a k).sem = (semM a j).sem := by
  have : ∀ x y (hx : ∀ b, (![x] : Fin 1 → Nat) b + S1.size b ≤ S16.size b) (hy : ∀ b, (![y] : Fin 1 → Nat) b + S1.size b ≤ S16.size b), x = y →
      ((a.slice (Rect.unit (s := S16) ![x] S1.size hx)).squeeze S_ squeezes_S1_S_).sem = ((a.slice (Rect.unit (s := S16) ![y] S1.size hy)).squeeze S_ squeezes_S1_S_).sem := by
    rintro x y hx hy rfl; rfl
  exact this _ _ _ _ h

/-- The arrays of completion semaphores, by kind of copy. -/
def semsOf (a : Fin 8) : DmaSems sig S16 :=
  match a with
  | 0 => cc0_scratch5 | 1 => cc0_scratch6 | 2 => cc0_scratch7 | 3 => cc0_scratch8
  | 4 => cc0_scratch9 | 5 => cc0_scratch10 | 6 => cc0_scratch11 | 7 => cc0_scratch12

/-- The semaphores of the eight arrays, by number. -/
theorem semsOf_at : ∀ (a : Fin 8) (r : Fin 16), (semM (semsOf a) r.val).sem = dq a r.val := by decide

/-- The semaphore that the program names for a chunk is the protocol's. -/
theorem sem_eq (a : Fin 8) (k : ℕ) : (semM (semsOf a) k).sem = dq a k := by
  have h := semsOf_at a (f16 k)
  rw [semM_congr (semsOf a) (show k % 16 = (f16 k).val % 16 by show k % 16 = k % 16 % 16; omega), h]
  apply Fin.ext
  show 16 * a.val + k % 16 % 16 = 16 * a.val + k % 16
  omega

/-- A copy into a slot pays one chunk's credit. -/
theorem slot_credit (b : Memref sig .tc .vmem S4x512x1024 .f32) (k : ℕ) : (slotM b k).view.dmaCredit = N := by unfold N; rfl
/-- A copy into a chunk of the other half pays the same. -/
theorem send_credit (k : ℕ) : (sendM aO c k).view.dmaCredit = N := by unfold N; rfl
/-- A copy into a chunk of the kept half pays the same. -/
theorem keep_credit (k : ℕ) : (keepM aO c k).view.dmaCredit = N := by unfold N; rfl

/-! ## The debts, one less -/

/-- What is owed before a copy to the x-neighbour is what is owed after it and that copy's landing. -/
theorem Odebt_recvX {a b x y : ℕ} (h : a < 16) : Odebt c a b x y = Odebt c (a + 1) b x y + tallyAt (dcell (xp c) 3 a) 0 N := by
  unfold Odebt; rw [Finset.sum_eq_sum_Ico_succ_bot h]; abel
/-- The same of a copy to the y-neighbour. -/
theorem Odebt_recvY {a b x y : ℕ} (h : b < 16) : Odebt c a b x y = Odebt c a (b + 1) x y + tallyAt (dcell (yp c) 5 b) 0 N := by
  unfold Odebt; rw [Finset.sum_eq_sum_Ico_succ_bot h]; abel
/-- What is owed before a credit to the x-neighbour is what is owed after it and that credit. -/
theorem Odebt_credX {a b x y : ℕ} (h : x < 12) : Odebt c a b x y = Odebt c a b (x + 1) y + tallyAt (cCell false (pr false c)) x 1 := by
  unfold Odebt; rw [Finset.sum_eq_sum_Ico_succ_bot h]; show _ = _ + tallyAt (cxCell (xp c)) x 1; abel
/-- The same of a credit to the y-neighbour. -/
theorem Odebt_credY {a b x y : ℕ} (h : y < 12) : Odebt c a b x y = Odebt c a b x (y + 1) + tallyAt (cCell true (pr true c)) y 1 := by
  unfold Odebt; rw [Finset.sum_eq_sum_Ico_succ_bot h]; show _ = _ + tallyAt (cyCell (yp c)) y 1; abel
/-- After the twelfth credit to the x-neighbour none is owed. -/
theorem Odebt_noX {a b x y : ℕ} (h : ¬ x < 12) : Odebt c a b x y = Odebt c a b (x + 1) y := by
  unfold Odebt; rw [Finset.Ico_eq_empty (by omega : ¬ x < 12), Finset.Ico_eq_empty (by omega : ¬ x + 1 < 12)]
/-- After the twelfth credit to the y-neighbour none is owed. -/
theorem Odebt_noY {a b x y : ℕ} (h : ¬ y < 12) : Odebt c a b x y = Odebt c a b x (y + 1) := by
  unfold Odebt; rw [Finset.Ico_eq_empty (by omega : ¬ y < 12), Finset.Ico_eq_empty (by omega : ¬ y + 1 < 12)]

/-- A wait for a copy on the device is allowed whatever is owed. -/
theorem may_own {s : Fin 8} {k a b x y : ℕ} (hk : k < 16) (h3 : s.val ≠ 3) (h5 : s.val ≠ 5) :
    (Lev : sProp 𝕄) ⊢ MayWait (c : Thread nD τ) (.dma (dq s k)) 0 (Odebt c a b x y) := by
  have e : lv ((c : Thread nD τ), .dma (dq s k)) 0 = 0 := by
    have := lv_dma c s hk 0
    rw [if_neg h3, if_neg h5] at this
    exact this
  exact mayWait (by omega) (by omega) (by omega) (by omega) (by omega)
/-- A device may wait for a landing from its x-neighbour when everything it still owes comes later. -/
theorem may_recvX {k a b x y : ℕ} (hk : k < 16) (ha : k < a) (hb : k ≤ b) (hx : k ≤ x) (hy : k ≤ y + 2) :
    (Lev : sProp 𝕄) ⊢ MayWait (c : Thread nD τ) (.dma (dq 3 k)) 0 (Odebt c a b x y) := by
  have e : lv ((c : Thread nD τ), .dma (dq 3 k)) 0 = 10 * k + 5 := by
    have := lv_dma c 3 hk 0
    rw [if_pos (by rfl)] at this
    exact this
  exact mayWait (by omega) (by omega) (by omega) (by omega) (by omega)
/-- The same of a landing from the y-neighbour. -/
theorem may_recvY {k a b x y : ℕ} (hk : k < 16) (ha : k < a) (hb : k < b) (hx : k < x) (hy : k ≤ y + 2) :
    (Lev : sProp 𝕄) ⊢ MayWait (c : Thread nD τ) (.dma (dq 5 k)) 0 (Odebt c a b x y) := by
  have e : lv ((c : Thread nD τ), .dma (dq 5 k)) 0 = 10 * k + 7 := by
    have := lv_dma c 5 hk 0
    rw [if_neg (by decide), if_pos (by rfl)] at this
    exact this
  exact mayWait (by omega) (by omega) (by omega) (by omega) (by omega)
/-- The same of a credit from the x-neighbour. -/
theorem may_takeX {j a b x y : ℕ} (hj : j < 12) (ha : j < a) (hb : j ≤ b) (hx : j < x) (hy : j ≤ y + 2) :
    (Lev : sProp 𝕄) ⊢ MayWait (c : Thread nD τ) (.reg (cS false)) j (Odebt c a b x y) := by
  have e : lv ((c : Thread nD τ), .reg (cS false)) j = 10 * j + 6 := lv_cx c j
  exact mayWait (by omega) (by omega) (by omega) (by omega) (by omega)
/-- The same of a credit from the y-neighbour. -/
theorem may_takeY {j a b x y : ℕ} (hj : j < 12) (ha : j + 2 < a) (hb : j + 2 < b) (hx : j + 2 < x) (hy : j < y) :
    (Lev : sProp 𝕄) ⊢ MayWait (c : Thread nD τ) (.reg (cS true)) j (Odebt c a b x y) := by
  have e : lv ((c : Thread nD τ), .reg (cS true)) j = 10 * j + 28 := lv_cy c j
  exact mayWait (by omega) (by omega) (by omega) (by omega) (by omega)

/-! ## The rights to issue, kind by kind -/

/-- What staging a chunk for sending takes: its duty and the argument's chunk. -/
theorem tk0 {k : ℕ} : tk m c 0 k = iprop(dutyTok ER (dcell c 0 k) 0 0 ∗ holds c (sendM aX c k) fullShare (sv m c k)) := rfl
/-- What staging a kept chunk takes. -/
theorem tk1 {k : ℕ} : tk m c 1 k = iprop(dutyTok ER (dcell c 1 k) 0 0 ∗ holds c (keepM aX c k) fullShare (kv m c k)) := rfl
/-- What sending a chunk to the x-neighbour takes: its duty, the right to write the slot and the landing's duty. -/
theorem tk2 {k : ℕ} : tk m c 2 k = iprop(dutyTok ER (dcell c 2 k) 0 0 ∗ Release.writeTok ES (key false (pr false c) k) (k / 4 + 1) ∗ dutyTok ER (dcell (pr false c) 3 k) 0 0) := rfl
/-- What sending a chunk to the y-neighbour takes. -/
theorem tk4 {k : ℕ} : tk m c 4 k = iprop(dutyTok ER (dcell c 4 k) 0 0 ∗ Release.writeTok ES (key true (pr true c) k) (k / 4 + 1) ∗ dutyTok ER (dcell (pr true c) 5 k) 0 0) := rfl
/-- What writing out a reduced chunk takes: its duty and the result's chunk. -/
theorem tk6 {k : ℕ} : tk m c 6 k = iprop(dutyTok ER (dcell c 6 k) 0 0 ∗ free c (keepM aO c k)) := rfl
/-- What writing out the y-neighbour's chunk takes. -/
theorem tk7 {k : ℕ} : tk m c 7 k = iprop(dutyTok ER (dcell c 7 k) 0 0 ∗ free c (sendM aO c k)) := rfl

/-- A staged chunk is the slot at the argument's values. -/
theorem rest0 {k : ℕ} : rest m c 0 k = holds c (slotM bS k) fullShare (sv m c k) := rfl
/-- A landed chunk from the y-neighbour is the slot at its reduced values. -/
theorem rest5 {k : ℕ} : rest m c 5 k = holds c (slotM bY k) fullShare (rv m (yp c) k) := rfl

/-! ## Fetching -/

/-- A chunk to be sent begins to be staged. -/
theorem tr_inS {k w : ℕ} (hk : k < 16) (hw : w ≤ k) :
    Tr m κ ι c iprop(free c (slotM bS k) ∗ G m c 0 k w) (G m c 0 (k + 1) w) (inS c k) :=
  tr_copy (sem_eq 0 k) (slot_credit bS k) hw hk (q := fullShare) (v := sv m c k)
    (by
      rw [tk0]
      iintro ⟨Hf, Ht, Hh⟩
      isplitl [Ht]; · iexact Ht
      isplitl [Hh] <;> iassumption)
    (Idealize.SL.BI.Entails.refl _)
/-- A kept chunk begins to be staged. -/
theorem tr_inL {k w : ℕ} (hk : k < 16) (hw : w ≤ k) :
    Tr m κ ι c iprop(free c (slotM bL k) ∗ G m c 1 k w) (G m c 1 (k + 1) w) (inL c k) :=
  tr_copy (sem_eq 1 k) (slot_credit bL k) hw hk (q := fullShare) (v := kv m c k)
    (by
      rw [tk1]
      iintro ⟨Hf, Ht, Hh⟩
      isplitl [Ht]; · iexact Ht
      isplitl [Hh] <;> iassumption)
    (Idealize.SL.BI.Entails.refl _)

/-- Chunk `k` of both halves is on its way in. -/
theorem tr_stageIn {k w w' : ℕ} (hk : k < 16) (hw : w ≤ k) (hw' : w' ≤ k) :
    Tr m κ ι c iprop((free c (slotM bS k) ∗ G m c 0 k w) ∗ (free c (slotM bL k) ∗ G m c 1 k w')) iprop(G m c 1 (k + 1) w' ∗ G m c 0 (k + 1) w) (stageIn c k) :=
  ((tr_inS hk hw).frame _).seq (((tr_inL hk hw').frame _).conseq BI.sep_comm (Idealize.SL.BI.Entails.refl _))

/-- A chunk to be sent has been staged. -/
theorem tr_wInS {k i a b x y : ℕ} (hk : k < i) (hi : i ≤ 16) :
    Tr m κ ι c iprop(owesE c (Odebt c a b x y) ∗ G m c 0 i k) iprop(owesE c (Odebt c a b x y) ∗ rest m c 0 k ∗ G m c 0 i (k + 1)) (wInS c k) :=
  tr_await (sem_eq 0 k) (slot_credit bS k) hk hi (may_own (by omega) (by decide) (by decide))
/-- A kept chunk has been staged. -/
theorem tr_wInL {k i a b x y : ℕ} (hk : k < i) (hi : i ≤ 16) :
    Tr m κ ι c iprop(owesE c (Odebt c a b x y) ∗ G m c 1 i k) iprop(owesE c (Odebt c a b x y) ∗ rest m c 1 k ∗ G m c 1 i (k + 1)) (wInL c k) :=
  tr_await (sem_eq 1 k) (slot_credit bL k) hk hi (may_own (by omega) (by decide) (by decide))

/-! ## The exchange along x and along y -/

/-- A slot released for chunk `k` is taken by whoever has the right to write it. -/
theorem take_slot {w : Bool} {d : Dev nD} {k : ℕ} :
    iprop(Known m κ ι ∗ ready w d k ∗ Release.writeTok ES (key w d k) (k / 4 + 1)) ⊢ iprop(|={Set.univ}=> free (F := F) d (slotM (ldM w) k)) := by
  rw [← slotOf_key]
  unfold ready
  iintro ⟨#HK, Hr, Hw⟩
  ihave #Hsl := (known_slot (F := F) m κ ι (key w d k)) $$ HK
  iapply (Release.slot_take ES (Set.mem_univ _) (k / 4 + 1))
  isplitr; · iexact Hsl
  isplitl [Hr] <;> iassumption

/-- A staged chunk begins to travel to the x-neighbour's slot. -/
theorem tr_sendX {k w b x y : ℕ} (hk : k < 16) (hw : w ≤ k) :
    Tr m κ ι c iprop(owesE c (Odebt c k b x y) ∗ (rest m c 0 k ∗ ready false (pr false c) k) ∗ G m c 2 k w)
      iprop(owesE c (Odebt c (k + 1) b x y) ∗ G m c 2 (k + 1) w) (sendX c k) :=
  tr_send (d := xp c) (a := 2) (b := 3) (sem_eq 2 k) (sem_eq 3 k) (slot_credit bX k) hw hk (q := fullShare) (v := sv m c k) (Odebt_recvX hk)
    (by
      rw [tk2, rest0]
      iintro ⟨HK, ⟨Hh, Hr⟩, Ht, Hw, Ht'⟩
      imod (take_slot (m := m) (κ := κ) (ι := ι) (w := false) (d := pr false c) (k := k)) $$ [HK Hr Hw] with Hf
      · isplitl [HK]; · iexact HK
        isplitl [Hr] <;> iassumption
      imodintro
      isplitl [Ht]; · iexact Ht
      isplitl [Ht']; · iexact Ht'
      isplitl [Hh]; · iexact Hh
      iexact Hf)
    (Idealize.SL.BI.Entails.refl _)
    (BIBase.Entails.of_eq (by
      show holds (xp c) (slotM bX k) fullShare (sv m c k) = holds (xp c) (slotM bX k) fullShare (sv m (xp (xp c)) k)
      rw [xp_xp]))

/-- A reduced chunk begins to travel to the y-neighbour's slot, read at half its share. -/
theorem tr_sendY {k w a x y : ℕ} (hk : k < 16) (hw : w ≤ k) :
    Tr m κ ι c iprop(owesE c (Odebt c a k x y) ∗ (holds c (slotM bR k) hl (rv m c k) ∗ ready true (pr true c) k) ∗ G m c 4 k w)
      iprop(owesE c (Odebt c a (k + 1) x y) ∗ G m c 4 (k + 1) w) (sendY c k) :=
  tr_send (d := yp c) (a := 4) (b := 5) (sem_eq 4 k) (sem_eq 5 k) (slot_credit bY k) hw hk (q := hl) (v := rv m c k) (Odebt_recvY hk)
    (by
      rw [tk4]
      iintro ⟨HK, ⟨Hh, Hr⟩, Ht, Hw, Ht'⟩
      imod (take_slot (m := m) (κ := κ) (ι := ι) (w := true) (d := pr true c) (k := k)) $$ [HK Hr Hw] with Hf
      · isplitl [HK]; · iexact HK
        isplitl [Hr] <;> iassumption
      imodintro
      isplitl [Ht]; · iexact Ht
      isplitl [Ht']; · iexact Ht'
      isplitl [Hh]; · iexact Hh
      iexact Hf)
    (Idealize.SL.BI.Entails.refl _)
    (BIBase.Entails.of_eq (by
      show holds (yp c) (slotM bY k) fullShare (rv m c k) = holds (yp c) (slotM bY k) fullShare (rv m (yp (yp c)) k)
      rw [yp_yp]))

/-- A chunk has left for the x-neighbour. -/
theorem tr_wSendX {k i a b x y : ℕ} (hk : k < i) (hi : i ≤ 16) :
    Tr m κ ι c iprop(owesE c (Odebt c a b x y) ∗ G m c 2 i k) iprop(owesE c (Odebt c a b x y) ∗ rest m c 2 k ∗ G m c 2 i (k + 1)) (wSendX k) :=
  tr_await (sem_eq 2 k) (slot_credit bS k) hk hi (may_own (by omega) (by decide) (by decide))
/-- A chunk has landed from the x-neighbour. -/
theorem tr_wRecvX {k a b x y : ℕ} (hk : k < 16) (ha : k < a) (hb : k ≤ b) (hx : k ≤ x) (hy : k ≤ y + 2) :
    Tr m κ ι c iprop(owesE c (Odebt c a b x y) ∗ G m c 3 16 k) iprop(owesE c (Odebt c a b x y) ∗ rest m c 3 k ∗ G m c 3 16 (k + 1)) (wRecvX k) :=
  tr_await (sem_eq 3 k) (slot_credit bX k) hk (le_refl _) (may_recvX hk ha hb hx hy)
/-- A reduced chunk has left for the y-neighbour. -/
theorem tr_wSendY {k i a b x y : ℕ} (hk : k < i) (hi : i ≤ 16) :
    Tr m κ ι c iprop(owesE c (Odebt c a b x y) ∗ G m c 4 i k) iprop(owesE c (Odebt c a b x y) ∗ rest m c 4 k ∗ G m c 4 i (k + 1)) (wSendY k) :=
  tr_await (sem_eq 4 k) (slot_credit bR k) hk hi (may_own (by omega) (by decide) (by decide))
/-- A reduced chunk has landed from the y-neighbour. -/
theorem tr_wRecvY {k a b x y : ℕ} (hk : k < 16) (ha : k < a) (hb : k < b) (hx : k < x) (hy : k ≤ y + 2) :
    Tr m κ ι c iprop(owesE c (Odebt c a b x y) ∗ G m c 5 16 k) iprop(owesE c (Odebt c a b x y) ∗ rest m c 5 k ∗ G m c 5 16 (k + 1)) (wRecvY k) :=
  tr_await (sem_eq 5 k) (slot_credit bY k) hk (le_refl _) (may_recvY hk ha hb hx hy)

/-! ## Storing -/

/-- A reduced chunk begins to be written out, read at the other half of its share. -/
theorem tr_outR {k w : ℕ} (hk : k < 16) (hw : w ≤ k) :
    Tr m κ ι c iprop(holds c (slotM bR k) hr (rv m c k) ∗ G m c 6 k w) (G m c 6 (k + 1) w) (outR c k) :=
  tr_copy (sem_eq 6 k) (keep_credit k) hw hk (q := hr) (v := rv m c k)
    (by
      rw [tk6]
      iintro ⟨Hh, Ht, Hf⟩
      isplitl [Ht]; · iexact Ht
      isplitl [Hh] <;> iassumption)
    (Idealize.SL.BI.Entails.refl _)
/-- The y-neighbour's chunk begins to be written out. -/
theorem tr_outY {k w : ℕ} (hk : k < 16) (hw : w ≤ k) :
    Tr m κ ι c iprop(rest m c 5 k ∗ G m c 7 k w) (G m c 7 (k + 1) w) (outY c k) :=
  tr_copy (sem_eq 7 k) (send_credit k) hw hk (q := fullShare) (v := rv m (yp c) k)
    (by
      rw [tk7, rest5]
      iintro ⟨Hh, Ht, Hf⟩
      isplitl [Ht]; · iexact Ht
      isplitl [Hh] <;> iassumption)
    (Idealize.SL.BI.Entails.refl _)
/-- A reduced chunk has been written out. -/
theorem tr_wOutR {k i a b x y : ℕ} (hk : k < i) (hi : i ≤ 16) :
    Tr m κ ι c iprop(owesE c (Odebt c a b x y) ∗ G m c 6 i k) iprop(owesE c (Odebt c a b x y) ∗ rest m c 6 k ∗ G m c 6 i (k + 1)) (wOutR c k) :=
  tr_await (sem_eq 6 k) (keep_credit k) hk hi (may_own (by omega) (by decide) (by decide))
/-- The y-neighbour's chunk has been written out. -/
theorem tr_wOutY {k i a b x y : ℕ} (hk : k < i) (hi : i ≤ 16) :
    Tr m κ ι c iprop(owesE c (Odebt c a b x y) ∗ G m c 7 i k) iprop(owesE c (Odebt c a b x y) ∗ rest m c 7 k ∗ G m c 7 i (k + 1)) (wOutY c k) :=
  tr_await (sem_eq 7 k) (send_credit k) hk hi (may_own (by omega) (by decide) (by decide))

end Cert.KernelIdeal
-- ==== Proof.Trip.lean ====
/-
# One trip of the pipeline

The state before trip k, written in k, and the proof that a trip leads to the state of the next.  Steps that only
some trips do are treated by the bounds of the bundles.
-/
module

public import proofs.«01_k».proof.Proof.Kinds

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-- The first step of a sequence, then the rest. -/
theorem go_on {P Q : sProp 𝕄} {p q : K F} (h : Tr m κ ι c P Q p) (Φ : PUnit → sProp 𝕄) :
    iprop(Known m κ ι ∗ P ∗ (Q -∗ wp frame (wpE (defs₀ (F := F)) 𝒱₀ (c : Thread nD τ) none) Set.univ q Φ))
      ⊢ wp frame (wpE (defs₀ (F := F)) 𝒱₀ (c : Thread nD τ) none) Set.univ (p >>= fun _ => q) Φ := by
  rw [wp_bind]; exact h (fun _ => wp frame (wpE (defs₀ (F := F)) 𝒱₀ (c : Thread nD τ) none) Set.univ q Φ)

/-! ## Steps done only in some trips -/

/-- The credits taken before chunk `k`, with what the handshake told. -/
def Tkn (w : Bool) (c : Dev nD) (k : ℕ) : sProp 𝕄 := iprop(barPay w (pr w c) ∗ Take (F := F) w c (k - 4))

instance barPay_persistent (w : Bool) (d : Dev nD) : BI.Persistent (barPay (F := F) w d) := by unfold barPay; infer_instance

/-- Before chunk `k` is sent its slot is known to be released: by the handshake, or by a credit. -/
theorem tr_takeIf {w : Bool} {k : ℕ} (hk : k < 16) {O : CellTallies nD τ sig ℕ}
    (hm : 4 ≤ k → ((Lev : sProp 𝕄) ⊢ MayWait (c : Thread nD τ) (.reg (cS w)) (k - 4) O)) :
    Tr m κ ι c iprop(owesE c O ∗ Tkn w c k) iprop(owesE c O ∗ ready w (pr w c) k ∗ Tkn w c (k + 1)) (when (4 ≤ k) (semWaitWord (cS w) 1#32)) := by
  refine Tr.when _ (fun h => ?_) (fun h => ?_)
  · refine Tr.within (barPay w (pr w c)) (tr_take (w := w) (n := k - 4) (by omega) (hm h)) ?_ ?_
    · unfold Tkn
      iintro ⟨HO, Hb, HT⟩
      isplitl [HO HT]; · isplitl [HO] <;> iassumption
      iexact Hb
    · unfold Tkn
      rw [show k + 1 - 4 = k - 4 + 1 by omega, show k - 4 + 4 = k by omega]
      iintro ⟨⟨HO, Hr, HT⟩, Hb⟩
      isplitl [HO]; · iexact HO
      isplitl [Hr]; · iexact Hr
      isplitl [Hb] <;> iassumption
  · unfold Tkn
    rw [show k + 1 - 4 = k - 4 by omega]
    iintro ⟨HO, #Hb, HT⟩
    isplitl [HO]; · iexact HO
    isplitr
    · unfold barPay
      iapply (bigSep_at (Φ := fun i => ready (F := F) w (pr w c) i) (Finset.mem_range.mpr (by omega : k < 4))) $$ Hb
    isplitr; · iexact Hb
    iexact HT

/-- The credits given before chunk `k`, and the landing slots that are not handed out any more. -/
def Gv (w : Bool) (c : Dev nD) (k : ℕ) : sProp 𝕄 := iprop(Give (F := F) w c (min k 12) ∗ fam 12 k (fun j => free c (slotM (ldM w) j)))

/-- The slot of chunk `k` is given back to the neighbour, unless it is one of the last four. -/
theorem tr_giveIf {w : Bool} {k : ℕ} {O O' : CellTallies nD τ sig ℕ} (h1 : k < 12 → O = O' + tallyAt (cCell w (pr w c)) k 1) (h2 : ¬ k < 12 → O = O') :
    Tr m κ ι c iprop(owesE c O ∗ free c (slotM (ldM w) k) ∗ Gv w c k) iprop(owesE c O' ∗ Gv w c (k + 1)) (when (k ≤ 11) (semSignalWord (pr w c) (cS w) 1#32)) := by
  refine Tr.when _ (fun h => ?_) (fun h => ?_)
  · refine (tr_give (w := w) (n := k) (by omega) (h1 (by omega))).conseq ?_ ?_
    · unfold Gv
      rw [show min k 12 = k by omega, fam_nil (by omega)]
      iintro ⟨HO, Hf, HG, -⟩
      isplitl [HO]; · iexact HO
      isplitl [Hf] <;> iassumption
    · unfold Gv
      rw [show min (k + 1) 12 = k + 1 by omega, fam_nil (by omega)]
      iintro ⟨HO, HG⟩
      isplitl [HO]; · iexact HO
      isplitl [HG]; · iexact HG
      iempintro
  · unfold Gv
    rw [h2 (by omega), show min (k + 1) 12 = min k 12 by omega, fam_back (by omega : 12 ≤ k)]
    iintro ⟨HO, Hf, HG, HF⟩
    isplitl [HO]; · iexact HO
    isplitl [HG]; · iexact HG
    isplitl [Hf] <;> iassumption

/-- Chunk `k` is sent to the x-neighbour. -/
theorem tr_startX {k i w b x y : ℕ} (hk : k < i) (hi : i ≤ 16) (hw : w ≤ k) (hb : k ≤ b + 4) (hx : k < x + 4 ∨ k < 4) (hy : k ≤ y + 6) :
    Tr m κ ι c iprop(owesE c (Odebt c k b x y) ∗ G m c 0 i k ∗ G m c 2 k w ∗ Tkn false c k)
      iprop(owesE c (Odebt c (k + 1) b x y) ∗ G m c 0 i (k + 1) ∗ G m c 2 (k + 1) w ∗ Tkn false c (k + 1)) (startX c k) := fun Φ => by
  unfold startX
  iintro ⟨#HK, ⟨HO, H0, H2, HT⟩, HΦ⟩
  iapply (go_on (tr_wInS hk hi) Φ)
  isplitr; · iexact HK
  isplitl [HO H0]; · isplitl [HO] <;> iassumption
  iintro ⟨HO, Hr, H0⟩
  iapply (go_on (tr_takeIf (w := false) (k := k) (by omega) (fun h => may_takeX (a := k) (b := b) (x := x) (y := y) (by omega) (by omega) (by omega) (by omega) (by omega))) Φ)
  isplitr; · iexact HK
  isplitl [HO HT]; · isplitl [HO] <;> iassumption
  iintro ⟨HO, Hy, HT⟩
  iapply (tr_sendX (by omega) hw Φ)
  isplitr; · iexact HK
  isplitl [HO Hr Hy H2]
  · isplitl [HO]; · iexact HO
    isplitl [Hr Hy]; · isplitl [Hr] <;> iassumption
    iexact H2
  iintro ⟨HO, H2⟩
  iapply HΦ
  isplitl [HO]; · iexact HO
  isplitl [H0]; · iexact H0
  isplitl [H2] <;> iassumption

/-- The next chunk is sent to the x-neighbour, if there is one. -/
theorem tr_startIf {k : ℕ} (hk : k < 16) :
    Tr m κ ι c iprop(owesE c (Odebt c (min (k + 1) 16) k k (k - 2)) ∗ G m c 0 (min (k + 4) 16) (min (k + 1) 16) ∗ G m c 2 (min (k + 1) 16) (min k 12) ∗ Tkn false c (min (k + 1) 16))
      iprop(owesE c (Odebt c (min (k + 2) 16) k k (k - 2)) ∗ G m c 0 (min (k + 4) 16) (min (k + 2) 16) ∗ G m c 2 (min (k + 2) 16) (min k 12) ∗ Tkn false c (min (k + 2) 16))
      (when (k + 1 < 16) (startX c (k + 1))) := by
  refine Tr.when _ (fun h => ?_) (fun h => ?_)
  · rw [show min (k + 1) 16 = k + 1 by omega, show min (k + 2) 16 = k + 1 + 1 by omega]
    exact tr_startX (by omega) (by omega) (by omega) (by omega) (by omega) (by omega)
  · rw [show min (k + 1) 16 = 16 by omega, show min (k + 2) 16 = 16 by omega]

/-- The two stores from a slot of sums are done: the slot is free. -/
theorem tr_freeR {k i i' a b x y : ℕ} (hk : k < i) (hi : i ≤ 16) (hk' : k < i') (hi' : i' ≤ 16) :
    Tr m κ ι c iprop(owesE c (Odebt c a b x y) ∗ G m c 4 i k ∗ G m c 6 i' k)
      iprop(owesE c (Odebt c a b x y) ∗ free c (slotM bR k) ∗ G m c 4 i (k + 1) ∗ G m c 6 i' (k + 1)) (freeR c k) := fun Φ => by
  unfold freeR
  have hf : iprop(rest m c 4 k ∗ rest m c 6 k) ⊢ free c (slotM bR k) := holds_join.trans holds_free
  iintro ⟨#HK, ⟨HO, H4, H6⟩, HΦ⟩
  iapply (go_on (tr_wSendY hk hi) Φ)
  isplitr; · iexact HK
  isplitl [HO H4]; · isplitl [HO] <;> iassumption
  iintro ⟨HO, Hl, H4⟩
  iapply (tr_wOutR hk' hi' Φ)
  isplitr; · iexact HK
  isplitl [HO H6]; · isplitl [HO] <;> iassumption
  iintro ⟨HO, Hr, H6⟩
  iapply HΦ
  isplitl [HO]; · iexact HO
  isplitl [Hl Hr]
  · iapply hf
    isplitl [Hl] <;> iassumption
  isplitl [H4] <;> iassumption

/-- The stores of sums before chunk `k`, and the slots of sums not used yet. -/
def RS (m : (ℓ : Loc nD τ sig) → Buf (Elt F) ℓ) (c : Dev nD) (k : ℕ) : sProp 𝕄 :=
  iprop(G m c 4 k (k - 4) ∗ G m c 6 k (k - 4) ∗ fam k 4 (fun j => free c (slotM bR j)))

/-- From the fourth chunk on, a reduced slot is awaited before it is filled again. -/
theorem tr_freeIf {k a b x y : ℕ} (hk : k < 16) :
    Tr m κ ι c iprop(owesE c (Odebt c a b x y) ∗ RS m c k)
      iprop(owesE c (Odebt c a b x y) ∗ free c (slotM bR k) ∗ G m c 4 k (k + 1 - 4) ∗ G m c 6 k (k + 1 - 4) ∗ fam (k + 1) 4 (fun j => free c (slotM bR j)))
      (when (4 ≤ k) (freeR c (k - 4))) := by
  unfold RS
  refine Tr.when _ (fun h => ?_) (fun h => ?_)
  · rw [show k + 1 - 4 = k - 4 + 1 by omega, fam_nil (by omega : 4 ≤ k), fam_nil (by omega : 4 ≤ k + 1), slotM_congr bR (by omega : k % 4 = (k - 4) % 4)]
    refine (tr_freeR (k := k - 4) (i := k) (i' := k) (a := a) (b := b) (x := x) (y := y) (by omega) (by omega) (by omega) (by omega)).conseq ?_ ?_
    · iintro ⟨HO, H4, H6, -⟩
      isplitl [HO]; · iexact HO
      isplitl [H4] <;> iassumption
    · iintro ⟨HO, Hf, H4, H6⟩
      isplitl [HO]; · iexact HO
      isplitl [Hf]; · iexact Hf
      isplitl [H4]; · iexact H4
      isplitl [H6]; · iexact H6
      iempintro
  · rw [show k + 1 - 4 = k - 4 by omega, fam_front (by omega : k < 4)]
    iintro ⟨HO, H4, H6, Hf, HF⟩
    isplitl [HO]; · iexact HO
    isplitl [Hf]; · iexact Hf
    isplitl [H4]; · iexact H4
    isplitl [H6] <;> iassumption

/-- Chunk `k` arrives from the y-neighbour and is stored. -/
theorem tr_drainY {k a b x y : ℕ} (hk : k < 16) (ha : k < a) (hb : k < b) (hx : k < x) (hy : k ≤ y + 2) :
    Tr m κ ι c iprop(owesE c (Odebt c a b x y) ∗ G m c 5 16 k ∗ G m c 7 k k)
      iprop(owesE c (Odebt c a b x y) ∗ free c (slotM bY k) ∗ G m c 5 16 (k + 1) ∗ G m c 7 (k + 1) (k + 1)) (drainY c k) := fun Φ => by
  unfold drainY
  have hf : rest m c 7 k ⊢ free c (slotM bY k) := holds_free
  iintro ⟨#HK, ⟨HO, H5, H7⟩, HΦ⟩
  iapply (go_on (tr_wRecvY hk ha hb hx hy) Φ)
  isplitr; · iexact HK
  isplitl [HO H5]; · isplitl [HO] <;> iassumption
  iintro ⟨HO, Hr, H5⟩
  iapply (go_on (tr_outY hk (le_refl k)) Φ)
  isplitr; · iexact HK
  isplitl [Hr H7]; · isplitl [Hr] <;> iassumption
  iintro H7
  iapply (tr_wOutY (Nat.lt_succ_self k) hk Φ)
  isplitr; · iexact HK
  isplitl [HO H7]; · isplitl [HO] <;> iassumption
  iintro ⟨HO, Hr, H7⟩
  iapply HΦ
  isplitl [HO]; · iexact HO
  isplitl [Hr]
  · iapply hf; iexact Hr
  isplitl [H5] <;> iassumption

/-- The chunk two back is stored, and its landing slot given back. -/
theorem tr_lagIf {k a : ℕ} (hk : k < 16) (ha : k < a) :
    Tr m κ ι c iprop(owesE c (Odebt c a (k + 1) (k + 1) (k - 2)) ∗ G m c 5 16 (k - 2) ∗ G m c 7 (k - 2) (k - 2) ∗ Gv true c (k - 2))
      iprop(owesE c (Odebt c a (k + 1) (k + 1) (k + 1 - 2)) ∗ G m c 5 16 (k + 1 - 2) ∗ G m c 7 (k + 1 - 2) (k + 1 - 2) ∗ Gv true c (k + 1 - 2))
      (when (2 ≤ k) (lagY c k)) := by
  refine Tr.when _ (fun h => ?_) (fun h => ?_)
  · rw [show k + 1 - 2 = k - 2 + 1 by omega]
    intro Φ
    unfold lagY
    iintro ⟨#HK, ⟨HO, H5, H7, HG⟩, HΦ⟩
    iapply (go_on (tr_drainY (k := k - 2) (a := a) (b := k + 1) (x := k + 1) (y := k - 2) (by omega) (by omega) (by omega) (by omega) (by omega)) Φ)
    isplitr; · iexact HK
    isplitl [HO H5 H7]
    · isplitl [HO]; · iexact HO
      isplitl [H5] <;> iassumption
    iintro ⟨HO, Hf, H5, H7⟩
    iapply (tr_giveIf (w := true) (k := k - 2) (c := c) (fun h => Odebt_credY h) (fun h => Odebt_noY h) Φ)
    isplitr; · iexact HK
    isplitl [HO Hf HG]
    · isplitl [HO]; · iexact HO
      isplitl [Hf]; · iexact Hf
      iexact HG
    iintro ⟨HO, HG⟩
    iapply HΦ
    isplitl [HO]; · iexact HO
    isplitl [H5]; · iexact H5
    isplitl [H7] <;> iassumption
  · rw [show k + 1 - 2 = k - 2 by omega]

/-- The buffers of chunk `k` are filled with chunk `k + 4`, as long as there is one. -/
theorem tr_refillIf {k a b x y : ℕ} (hk : k < 16) :
    Tr m κ ι c iprop(owesE c (Odebt c a b x y) ∗ free c (slotM bL k) ∗ G m c 0 (min (k + 4) 16) (min (k + 2) 16) ∗ G m c 1 (min (k + 4) 16) (k + 1)
        ∗ G m c 2 (min (k + 2) 16) (min k 12) ∗ fam 12 k (fun j => free c (slotM bL j)))
      iprop(owesE c (Odebt c a b x y) ∗ G m c 0 (min (k + 1 + 4) 16) (min (k + 2) 16) ∗ G m c 1 (min (k + 1 + 4) 16) (k + 1)
        ∗ G m c 2 (min (k + 2) 16) (min (k + 1) 12) ∗ fam 12 (k + 1) (fun j => free c (slotM bL j)))
      (when (k + 4 < 16) (refill c k)) := by
  refine Tr.when _ (fun h => ?_) (fun h => ?_)
  · rw [show min (k + 4) 16 = k + 4 by omega, show min (k + 1 + 4) 16 = k + 4 + 1 by omega, show min (k + 2) 16 = k + 2 by omega,
      show min k 12 = k by omega, show min (k + 1) 12 = k + 1 by omega, fam_nil (by omega : k ≤ 12), fam_nil (by omega : k + 1 ≤ 12), ← slotM_congr bL (Nat.add_mod_right k 4)]
    intro Φ
    unfold refill
    iintro ⟨#HK, ⟨HO, Hf, H0, H1, H2, -⟩, HΦ⟩
    iapply (go_on (tr_wSendX (k := k) (i := k + 2) (a := a) (b := b) (x := x) (y := y) (by omega) (by omega)) Φ)
    isplitr; · iexact HK
    isplitl [HO H2]; · isplitl [HO] <;> iassumption
    iintro ⟨HO, Hs, H2⟩
    have hs : rest m c 2 k ⊢ free c (slotM bS (k + 4)) := by
      rw [slotM_congr bS (Nat.add_mod_right k 4)]; exact holds_free
    ihave Hs := hs $$ Hs
    iapply (tr_stageIn (k := k + 4) (w := k + 2) (w' := k + 1) (by omega) (by omega) (by omega) Φ)
    isplitr; · iexact HK
    isplitl [Hs H0 Hf H1]
    · isplitl [Hs H0]; · isplitl [Hs] <;> iassumption
      isplitl [Hf] <;> iassumption
    iintro ⟨H1, H0⟩
    iapply HΦ
    isplitl [HO]; · iexact HO
    isplitl [H0]; · iexact H0
    isplitl [H1]; · iexact H1
    isplitl [H2]; · iexact H2
    iempintro
  · rw [show min (k + 4) 16 = 16 by omega, show min (k + 1 + 4) 16 = 16 by omega, show min k 12 = 12 by omega, show min (k + 1) 12 = 12 by omega,
      fam_back (by omega : 12 ≤ k)]
    iintro ⟨HO, Hf, H0, H1, H2, HF⟩
    isplitl [HO]; · iexact HO
    isplitl [H0]; · iexact H0
    isplitl [H1]; · iexact H1
    isplitl [H2]; · iexact H2
    isplitl [Hf] <;> iassumption

/-! ## One trip -/

/-- The state before trip `k`. -/
def St (m : (ℓ : Loc nD τ sig) → Buf (Elt F) ℓ) (c : Dev nD) (k : ℕ) : sProp 𝕄 :=
  iprop(owesE c (Odebt c (min (k + 1) 16) k k (k - 2))
    ∗ G m c 0 (min (k + 4) 16) (min (k + 1) 16) ∗ G m c 1 (min (k + 4) 16) k ∗ G m c 2 (min (k + 1) 16) (min k 12) ∗ G m c 3 16 k
    ∗ G m c 5 16 (k - 2) ∗ G m c 7 (k - 2) (k - 2) ∗ RS m c k
    ∗ Tkn false c (min (k + 1) 16) ∗ Tkn true c k ∗ Gv false c k ∗ Gv true c (k - 2) ∗ fam 12 k (fun j => free c (slotM bL j)))

/-- One turn of the loop, from one chunk to the next. -/
theorem tr_trip {k : ℕ} (hk : k < 16) : Tr m κ ι c (St m c k) (St m c (k + 1)) (trip c k) := fun Φ => by
  unfold St trip
  iintro ⟨#HK, ⟨HO, H0, H1, H2, H3, H5, H7, HR, HTx, HTy, HGx, HGy, HL⟩, HΦ⟩
  iapply (go_on (tr_startIf hk) Φ)
  isplitr; · iexact HK
  isplitl [HO H0 H2 HTx]
  · isplitl [HO]; · iexact HO
    isplitl [H0]; · iexact H0
    isplitl [H2] <;> iassumption
  iintro ⟨HO, H0, H2, HTx⟩
  iapply (go_on (tr_wInL (k := k) (i := min (k + 4) 16) (a := min (k + 2) 16) (b := k) (x := k) (y := k - 2) (by omega) (by omega)) Φ)
  isplitr; · iexact HK
  isplitl [HO H1]; · isplitl [HO] <;> iassumption
  iintro ⟨HO, Hr1, H1⟩
  iapply (go_on (tr_wRecvX (a := min (k + 2) 16) (b := k) (x := k) (y := k - 2) hk (by omega) (by omega) (by omega) (by omega)) Φ)
  isplitr; · iexact HK
  isplitl [HO H3]; · isplitl [HO] <;> iassumption
  iintro ⟨HO, Hr3, H3⟩
  iapply (go_on (tr_freeIf hk) Φ)
  isplitr; · iexact HK
  isplitl [HO HR]; · isplitl [HO] <;> iassumption
  iintro ⟨HO, HfR, H4, H6, HFR⟩
  iapply (go_on tr_addUp Φ)
  isplitr; · iexact HK
  isplitl [Hr1 Hr3 HfR]
  · isplitl [Hr1]; · iexact Hr1
    isplitl [Hr3] <;> iassumption
  iintro ⟨HS, HfL, HfX⟩
  iapply (go_on (tr_giveIf (w := false) (k := k) (c := c) (fun h => Odebt_credX h) (fun h => Odebt_noX h)) Φ)
  isplitr; · iexact HK
  isplitl [HO HfX HGx]
  · isplitl [HO]; · iexact HO
    isplitl [HfX]; · iexact HfX
    iexact HGx
  iintro ⟨HO, HGx⟩
  iapply (go_on (tr_takeIf (w := true) (k := k) hk (fun h => may_takeY (a := min (k + 2) 16) (b := k) (x := k + 1) (y := k - 2) (by omega) (by omega) (by omega) (by omega) (by omega))) Φ)
  isplitr; · iexact HK
  isplitl [HO HTy]; · isplitl [HO] <;> iassumption
  iintro ⟨HO, Hy, HTy⟩
  ihave HS := holds_split $$ HS
  icases HS with ⟨Hl, Hr⟩
  iapply (go_on (tr_sendY (w := k + 1 - 4) (a := min (k + 2) 16) (x := k + 1) (y := k - 2) hk (by omega)) Φ)
  isplitr; · iexact HK
  isplitl [HO Hl Hy H4]
  · isplitl [HO]; · iexact HO
    isplitl [Hl Hy]; · isplitl [Hl] <;> iassumption
    iexact H4
  iintro ⟨HO, H4⟩
  iapply (go_on (tr_outR (w := k + 1 - 4) hk (by omega)) Φ)
  isplitr; · iexact HK
  isplitl [Hr H6]; · isplitl [Hr] <;> iassumption
  iintro H6
  iapply (go_on (tr_lagIf (a := min (k + 2) 16) hk (by omega)) Φ)
  isplitr; · iexact HK
  isplitl [HO H5 H7 HGy]
  · isplitl [HO]; · iexact HO
    isplitl [H5]; · iexact H5
    isplitl [H7] <;> iassumption
  iintro ⟨HO, H5, H7, HGy⟩
  iapply (tr_refillIf hk Φ)
  isplitr; · iexact HK
  isplitl [HO HfL H0 H1 H2 HL]
  · isplitl [HO]; · iexact HO
    isplitl [HfL]; · iexact HfL
    isplitl [H0]; · iexact H0
    isplitl [H1]; · iexact H1
    isplitl [H2] <;> iassumption
  iintro ⟨HO, H0, H1, H2, HL⟩
  iapply HΦ
  isplitl [HO]; · iexact HO
  isplitl [H0]; · iexact H0
  isplitl [H1]; · iexact H1
  isplitl [H2]; · iexact H2
  isplitl [H3]; · iexact H3
  isplitl [H5]; · iexact H5
  isplitl [H7]; · iexact H7
  isplitl [H4 H6 HFR]
  · unfold RS
    isplitl [H4]; · iexact H4
    isplitl [H6] <;> iassumption
  isplitl [HTx]; · iexact HTx
  isplitl [HTy]; · iexact HTy
  isplitl [HGx]; · iexact HGx
  isplitl [HGy] <;> iassumption

/-- The first `n` trips. -/
theorem tr_trips {n : ℕ} (hn : n ≤ 16) : Tr m κ ι c (St m c 0) (St m c n) (trips c n) := by
  induction n with
  | zero => exact Tr.skip (Idealize.SL.BI.Entails.refl _)
  | succ n ih => exact (ih (by omega)).seq (tr_trip (by omega))

end Cert.KernelIdeal
-- ==== Proof.Ends.lean ====
/-
# The handshake, and the pipeline's two ends

What happens before the first trip and after the last.
-/
module

public import proofs.«01_k».proof.Proof.Trip

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-- A family over the first numbers, its last member taken out. -/
theorem range_last (n : ℕ) (P : ℕ → sProp 𝕄) : bigSep (Finset.range (n + 1)) P = iprop(P n ∗ bigSep (Finset.range n) P) := by
  rw [Finset.range_add_one, bigSep_insert Finset.notMem_range_self]; rfl

/-! ## The handshake -/

/-- The four landing slots from direction `w` are released for the first writes. -/
theorem release_first (w : Bool) {n : ℕ} (hn : n ≤ 4) :
    iprop(Known m κ ι ∗ fam 0 n (fun j => Release.readerAt ES (key w c j) 0) ∗ fam 0 n (fun j => free c (slotM (ldM w) j)))
      ⊢ iprop(|={Set.univ}=> (fam 0 n (fun j => Release.readerAt ES (key w c j) (j / 4 + 1)) ∗ bigSep (Finset.range n) (fun i => ready (F := F) w c i))) := by
  induction n with
  | zero =>
    rw [fam_nil (le_refl 0), fam_nil (le_refl 0), fam_nil (le_refl 0), Finset.range_zero, bigSep_empty]
    iintro ⟨-, -, -⟩
    imodintro
    isplitr <;> iempintro
  | succ n ih =>
    rw [fam_back (Nat.zero_le n), fam_back (Nat.zero_le n), fam_back (Nat.zero_le n), range_last, ← slotOf_key]
    iintro ⟨#HK, ⟨Hr, Hrs⟩, ⟨Hf, Hfs⟩⟩
    imod (ih (by omega)) $$ [Hrs Hfs] with ⟨Hrs, Hd⟩
    · isplitr; · iexact HK
      isplitl [Hrs] <;> iassumption
    ihave #Hsl := (known_slot (F := F) m κ ι (key w c n)) $$ HK
    imod (Release.slot_release ES (Set.mem_univ _) (slotOf_excl (key w c n)) 0) $$ [Hr Hf] with ⟨Hr, Hrel⟩
    · isplitr; · iexact Hsl
      isplitl [Hr] <;> iassumption
    imodintro
    have e : n / 4 = 0 := by omega
    unfold ready
    rw [e, Nat.zero_add]
    isplitl [Hr Hrs]
    · isplitl [Hr] <;> iassumption
    isplitl [Hrel]; · iexact Hrel
    iexact Hd

/-- A device may wait at the barrier whatever copies and credits it still owes. -/
theorem may_bar {a b x y : ℕ} : (Lev : sProp 𝕄) ⊢ MayWait (c : Thread nD τ) (.reg barS) 0 (Odebt c a b x y) := by
  have e : lv ((c : Thread nD τ), .reg barS) 0 = 1 := lv_bar c 0
  exact mayWait (by omega) (by omega) (by omega) (by omega) (by omega)

/-- A signal to a neighbour's barrier. -/
theorem tr_signalBar {d : Dev nD} {i : ℕ} {O : CellTallies nD τ sig ℕ} (hi : i ∈ ({0, 1} : Finset ℕ)) {P : sProp 𝕄} (hp : P ⊢ (Rd m).payload (barCell d) 0 i) :
    Tr m κ ι c iprop(owesE c (O + tallyAt (barCell d) 0 1) ∗ dutyTok ER (barCell d) 0 i ∗ P) (owesE c O) (semSignalWord d barS 1#32) := fun Φ => by
  unfold owesE
  iintro ⟨#HK, ⟨⟨%W, HO⟩, Ht, HP⟩, HΦ⟩
  ihave Hcell := (known_bar (F := F) m κ ι d) $$ HK
  icases Hcell with ⟨#Hinv, #Hre⟩
  unfold semSignalWord
  have hp' : P ⊢ (Rd m).payload ((d : Thread nD τ), .reg barS) 0 i := hp
  iapply (Rounds.wp_signal 𝒱₀ ER (Rd m) (c : Thread nD τ) none (dst := (d : Thread nD τ)) (sem := barS) (r := 0) (d := i) (k' := 1) (κ := κ (barCell d))
    (by rw [show (((d : Thread nD τ), SemLoc.reg barS) : GSem nD τ sig) = barCell d from rfl, duties_bar]; exact hi)
    (amount_reg m _ _ _ _) 0 O rfl) $$ [HO Ht HP]
  · isplitr; · iexact Hinv
    isplitl [HO]; · iexact HO
    isplitl [Ht]; · iexact Ht
    isplitl [HP]; · iapply hp'; iexact HP
    iexact Hre
  iintro HO
  rw [wp_ret]; imodintro
  iapply HΦ
  iexists _; iexact HO

/-- The wait for both neighbours. -/
theorem tr_waitBar {a b x y : ℕ} :
    Tr m κ ι c iprop(owesE c (Odebt c a b x y) ∗ cred (tallyAt (barCell c) 0 2) ∗ atPos ER (barCell c) 0 ∅ 0)
      iprop(owesE c (Odebt c a b x y) ∗ (barPay false (xp c) ∗ barPay true (yp c)) ∗ atPos ER (barCell c) 1 ∅ 0) (semWaitWord barS 2#32) := fun Φ => by
  unfold owesE
  iintro ⟨#HK, ⟨⟨%W, HO⟩, Hc, Hat⟩, HΦ⟩
  ihave Hcell := (known_bar (F := F) m κ ι c) $$ HK
  icases Hcell with ⟨#Hinv, -⟩
  unfold semWaitWord
  iapply (Rounds.wp_wait_rest_token 𝒱₀ ER (Rd m) (c : Thread nD τ) none (κ := κ (barCell c)) (sm := .reg barS) (k' := 2)
    (fun K => wpE_semWait_eq 𝒱₀ (c : Thread nD τ) none Set.univ K) (Set.mem_univ _) 0 (O := Odebt c a b x y) (W := W) (R := 0) (m := 0) (T := ∅)
    (by rw [show (((c : Thread nD τ), SemLoc.reg barS) : GSem nD τ sig) = barCell c from rfl, expect_bar])) $$ [Hc HO Hat]
  · isplitr; · iexact Hinv
    isplitl [Hc]; · iexact Hc
    isplitl [HO]; · iexact HO
    isplitr
    · iapply (known_may m κ ι may_bar); iexact HK
    iexact Hat
  iintro ⟨HO, Hat, -, Hpay⟩
  have hpay : bigSep ((Rd m).duties ((c : Thread nD τ), .reg barS) 0 \ ∅) (fun d => (Rd m).payload ((c : Thread nD τ), .reg barS) 0 d)
      ⊢ iprop(barPay false (xp c) ∗ barPay (F := F) true (yp c)) := by
    refine BIBase.Entails.of_eq ?_
    rw [Finset.sdiff_empty]
    show bigSep ((Rd m).duties (barCell c) 0) (fun d => (Rd m).payload (barCell c) 0 d) = _
    rw [duties_bar, bigSep_insert (by decide), bigSep_singleton, payload_bar0, payload_bar1]
    rfl
  ihave Hpay := hpay $$ Hpay
  rw [wp_ret]; imodintro
  iapply HΦ
  isplitl [HO]; · iexists _; iexact HO
  isplitl [Hpay]; · iexact Hpay
  iexact Hat

/-- Before the handshake: the readers' counts and the landing slots of direction `w`. -/
def Landing (w : Bool) (c : Dev nD) : sProp 𝕄 :=
  iprop(fam 0 4 (fun j => Release.readerAt ES (key w c j) 0) ∗ fam 0 4 (fun j => free (F := F) c (slotM (ldM w) j)))
/-- After it. -/
def Landed (w : Bool) (c : Dev nD) : sProp 𝕄 := fam 0 4 (fun j => (Release.readerAt ES (key w c j) (j / 4 + 1) : sProp 𝕄))

/-- The handshake's own: a duty at either neighbour's barrier, the credit and the place at the own one. -/
def BarS (c : Dev nD) : sProp 𝕄 :=
  iprop(dutyTok ER (barCell (xp c)) 0 0 ∗ dutyTok ER (barCell (yp c)) 0 1 ∗ cred (tallyAt (barCell c) 0 2) ∗ atPos ER (barCell c) 0 ∅ 0)

/-- What a device owes at the start. -/
def Odebt0 (c : Dev nD) : CellTallies nD τ sig ℕ := Odebt c 0 0 0 0 + tallyAt (barCell (yp c)) 0 1 + tallyAt (barCell (xp c)) 0 1

/-- The handshake: both neighbours are signalled and both are waited for, and the landing slots change hands. -/
theorem tr_hands :
    Tr m κ ι c iprop(owesE c (Odebt0 c) ∗ Landing false c ∗ Landing true c ∗ BarS c)
      iprop(owesE c (Odebt c 0 0 0 0) ∗ Landed false c ∗ Landed true c ∗ (barPay false (xp c) ∗ barPay true (yp c)) ∗ atPos ER (barCell c) 1 ∅ 0) (hands c) := fun Φ => by
  unfold Landing Landed BarS Odebt0 hands
  iintro ⟨#HK, ⟨HO, ⟨Hr, Hf⟩, ⟨Hr', Hf'⟩, Ht, Ht', Hc, Hat⟩, HΦ⟩
  imod (release_first (m := m) (κ := κ) (ι := ι) (c := c) false (le_refl 4)) $$ [Hr Hf] with ⟨Hr, Hp⟩
  · isplitr; · iexact HK
    isplitl [Hr] <;> iassumption
  imod (release_first (m := m) (κ := κ) (ι := ι) (c := c) true (le_refl 4)) $$ [Hr' Hf'] with ⟨Hr', Hp'⟩
  · isplitr; · iexact HK
    isplitl [Hr'] <;> iassumption
  iapply (go_on (tr_signalBar (m := m) (d := xp c) (i := 0) (by decide) (P := barPay false c)
    (BIBase.Entails.of_eq (by rw [payload_bar0, xp_xp]))) Φ)
  isplitr; · iexact HK
  isplitl [HO Ht Hp]
  · isplitl [HO]; · iexact HO
    isplitl [Ht]; · iexact Ht
    unfold barPay; iexact Hp
  iintro HO
  iapply (go_on (tr_signalBar (m := m) (d := yp c) (i := 1) (by decide) (P := barPay true c)
    (BIBase.Entails.of_eq (by rw [payload_bar1, yp_yp]))) Φ)
  isplitr; · iexact HK
  isplitl [HO Ht' Hp']
  · isplitl [HO]; · iexact HO
    isplitl [Ht']; · iexact Ht'
    unfold barPay; iexact Hp'
  iintro HO
  iapply (tr_waitBar Φ)
  isplitr; · iexact HK
  isplitl [HO Hc Hat]
  · isplitl [HO]; · iexact HO
    isplitl [Hc] <;> iassumption
  iintro ⟨HO, Hb, Hat⟩
  iapply HΦ
  isplitl [HO]; · iexact HO
  isplitl [Hr]; · iexact Hr
  isplitl [Hr']; · iexact Hr'
  isplitl [Hb] <;> iassumption

/-! ## Filling the pipeline -/

/-- One of the first four chunks is staged, along both paths. -/
theorem tr_fill {k : ℕ} (hk : k < 4) :
    Tr m κ ι c iprop(fam k 4 (fun j => free c (slotM bS j)) ∗ fam k 4 (fun j => free c (slotM bL j)) ∗ G m c 0 k 0 ∗ G m c 1 k 0)
      iprop(fam (k + 1) 4 (fun j => free c (slotM bS j)) ∗ fam (k + 1) 4 (fun j => free c (slotM bL j)) ∗ G m c 0 (k + 1) 0 ∗ G m c 1 (k + 1) 0) (stageIn c k) := by
  rw [fam_front hk, fam_front hk]
  refine Tr.within iprop(fam (k + 1) 4 (fun j => free c (slotM bS j)) ∗ fam (k + 1) 4 (fun j => free c (slotM bL j)))
    (tr_stageIn (k := k) (w := 0) (w' := 0) (by omega) (by omega) (by omega)) ?_ ?_
  · iintro ⟨⟨H1, H1s⟩, ⟨H2, H2s⟩, H3, H4⟩
    isplitl [H1 H2 H3 H4]
    · isplitl [H1 H3]; · isplitl [H1] <;> iassumption
      isplitl [H2] <;> iassumption
    isplitl [H1s] <;> iassumption
  · iintro ⟨⟨H1, H2⟩, H3, H4⟩
    isplitl [H3]; · iexact H3
    isplitl [H4]; · iexact H4
    isplitl [H2] <;> iassumption

/-- The first four chunks are staged and the first is sent to the x-neighbour. -/
theorem tr_fillUp :
    Tr m κ ι c iprop(owesE c (Odebt c 0 0 0 0) ∗ (fam 0 4 (fun j => free c (slotM bS j)) ∗ fam 0 4 (fun j => free c (slotM bL j)) ∗ G m c 0 0 0 ∗ G m c 1 0 0)
        ∗ G m c 2 0 0 ∗ Tkn false c 0)
      iprop(owesE c (Odebt c 1 0 0 0) ∗ G m c 0 4 1 ∗ G m c 1 4 0 ∗ G m c 2 1 0 ∗ Tkn false c 1) (fillUp c) := fun Φ => by
  unfold fillUp
  iintro ⟨#HK, ⟨HO, HF, H2, HT⟩, HΦ⟩
  iapply (go_on (tr_fill (k := 0) (by decide)) Φ)
  isplitr; · iexact HK
  isplitl [HF]; · iexact HF
  iintro HF
  iapply (go_on (tr_fill (k := 1) (by decide)) Φ)
  isplitr; · iexact HK
  isplitl [HF]; · iexact HF
  iintro HF
  iapply (go_on (tr_fill (k := 2) (by decide)) Φ)
  isplitr; · iexact HK
  isplitl [HF]; · iexact HF
  iintro HF
  iapply (go_on (tr_fill (k := 3) (by decide)) Φ)
  isplitr; · iexact HK
  isplitl [HF]; · iexact HF
  iintro ⟨-, -, H0, H1⟩
  iapply (tr_startX (k := 0) (i := 4) (w := 0) (b := 0) (x := 0) (y := 0) (by decide) (by decide) (by decide) (by decide) (by decide) (by decide) Φ)
  isplitr; · iexact HK
  isplitl [HO H0 H2 HT]
  · isplitl [HO]; · iexact HO
    isplitl [H0]; · iexact H0
    isplitl [H2] <;> iassumption
  iintro ⟨HO, H0, H2, HT⟩
  iapply HΦ
  isplitl [HO]; · iexact HO
  isplitl [H0]; · iexact H0
  isplitl [H1]; · iexact H1
  isplitl [H2] <;> iassumption

/-! ## Emptying it -/

/-- At the end one chunk from the y-neighbour is awaited and written out. -/
theorem tr_drainEnd {k : ℕ} (hk : k < 16) (h12 : 12 ≤ k) :
    Tr m κ ι c iprop(owesE c (Odebt c 16 16 16 14) ∗ G m c 5 16 k ∗ G m c 7 k k ∗ fam 12 k (fun j => free c (slotM bY j)))
      iprop(owesE c (Odebt c 16 16 16 14) ∗ G m c 5 16 (k + 1) ∗ G m c 7 (k + 1) (k + 1) ∗ fam 12 (k + 1) (fun j => free c (slotM bY j))) (drainY c k) := by
  rw [fam_back h12]
  refine Tr.within (fam 12 k (fun j => free c (slotM bY j))) (tr_drainY (k := k) (a := 16) (b := 16) (x := 16) (y := 14) hk hk hk hk (by omega)) ?_ ?_
  · iintro ⟨HO, H5, H7, HF⟩
    isplitl [HO H5 H7]
    · isplitl [HO]; · iexact HO
      isplitl [H5] <;> iassumption
    iexact HF
  · iintro ⟨⟨HO, Hf, H5, H7⟩, HF⟩
    isplitl [HO]; · iexact HO
    isplitl [H5]; · iexact H5
    isplitl [H7]; · iexact H7
    isplitl [Hf] <;> iassumption

/-- At the end the last copies of one chunk are awaited and its slots are free. -/
theorem tr_lastFree {k a b x y : ℕ} (hk : k < 16) (h12 : 12 ≤ k) :
    Tr m κ ι c iprop(owesE c (Odebt c a b x y) ∗ G m c 2 16 k ∗ G m c 4 16 k ∗ G m c 6 16 k ∗ fam 12 k (fun j => free c (slotM bS j)) ∗ fam 12 k (fun j => free c (slotM bR j)))
      iprop(owesE c (Odebt c a b x y) ∗ G m c 2 16 (k + 1) ∗ G m c 4 16 (k + 1) ∗ G m c 6 16 (k + 1) ∗ fam 12 (k + 1) (fun j => free c (slotM bS j))
        ∗ fam 12 (k + 1) (fun j => free c (slotM bR j))) (lastFree c k) := fun Φ => by
  rw [fam_back h12, fam_back h12]
  unfold lastFree
  have hf : rest m c 2 k ⊢ free c (slotM bS k) := holds_free
  iintro ⟨#HK, ⟨HO, H2, H4, H6, HFS, HFR⟩, HΦ⟩
  iapply (go_on (tr_wSendX (k := k) (i := 16) (a := a) (b := b) (x := x) (y := y) hk (le_refl _)) Φ)
  isplitr; · iexact HK
  isplitl [HO H2]; · isplitl [HO] <;> iassumption
  iintro ⟨HO, Hs, H2⟩
  iapply (tr_freeR (k := k) (i := 16) (i' := 16) (a := a) (b := b) (x := x) (y := y) hk (le_refl _) hk (le_refl _) Φ)
  isplitr; · iexact HK
  isplitl [HO H4 H6]
  · isplitl [HO]; · iexact HO
    isplitl [H4] <;> iassumption
  iintro ⟨HO, Hr, H4, H6⟩
  iapply HΦ
  isplitl [HO]; · iexact HO
  isplitl [H2]; · iexact H2
  isplitl [H4]; · iexact H4
  isplitl [H6]; · iexact H6
  isplitl [Hs HFS]
  · isplitl [Hs]; · iapply hf; iexact Hs
    iexact HFS
  isplitl [Hr] <;> iassumption

/-- The whole end: the last two chunks from the y-neighbour, then the last four chunks' copies. -/
theorem tr_endUp :
    Tr m κ ι c iprop((owesE c (Odebt c 16 16 16 14) ∗ G m c 5 16 14 ∗ G m c 7 14 14 ∗ fam 12 14 (fun j => free c (slotM bY j)))
        ∗ G m c 2 16 12 ∗ G m c 4 16 12 ∗ G m c 6 16 12)
      iprop((G m c 5 16 16 ∗ G m c 7 16 16 ∗ fam 12 16 (fun j => free c (slotM bY j)))
        ∗ owesE c (Odebt c 16 16 16 14) ∗ G m c 2 16 16 ∗ G m c 4 16 16 ∗ G m c 6 16 16 ∗ fam 12 16 (fun j => free c (slotM bS j)) ∗ fam 12 16 (fun j => free c (slotM bR j)))
      (endUp c) := fun Φ => by
  unfold endUp
  iintro ⟨#HK, ⟨HD, H2, H4, H6⟩, HΦ⟩
  iapply (go_on (tr_drainEnd (k := 14) (by decide) (by decide)) Φ)
  isplitr; · iexact HK
  isplitl [HD]; · iexact HD
  iintro HD
  iapply (go_on (tr_drainEnd (k := 15) (by decide) (by decide)) Φ)
  isplitr; · iexact HK
  isplitl [HD]; · iexact HD
  iintro ⟨HO, H5, H7, HY⟩
  iapply (go_on (tr_lastFree (k := 12) (a := 16) (b := 16) (x := 16) (y := 14) (by decide) (by decide)) Φ)
  isplitr; · iexact HK
  isplitl [HO H2 H4 H6]
  · isplitl [HO]; · iexact HO
    isplitl [H2]; · iexact H2
    isplitl [H4]; · iexact H4
    isplitl [H6]; · iexact H6
    rw [fam_nil (le_refl 12), fam_nil (le_refl 12)]
    isplitr <;> iempintro
  iintro HL
  iapply (go_on (tr_lastFree (k := 13) (a := 16) (b := 16) (x := 16) (y := 14) (by decide) (by decide)) Φ)
  isplitr; · iexact HK
  isplitl [HL]; · iexact HL
  iintro HL
  iapply (go_on (tr_lastFree (k := 14) (a := 16) (b := 16) (x := 16) (y := 14) (by decide) (by decide)) Φ)
  isplitr; · iexact HK
  isplitl [HL]; · iexact HL
  iintro HL
  iapply (tr_lastFree (k := 15) (a := 16) (b := 16) (x := 16) (y := 14) (by decide) (by decide) Φ)
  isplitr; · iexact HK
  isplitl [HL]; · iexact HL
  iintro HL
  iapply HΦ
  isplitl [H5 H7 HY]
  · isplitl [H5]; · iexact H5
    isplitl [H7] <;> iassumption
  iexact HL

end Cert.KernelIdeal
-- ==== Proof.Whole.lean ====
/-
# The body as a whole

From what a device starts with to what it ends with.
-/
module

public import proofs.«01_k».proof.Proof.Ends

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-- The duties of the credits a device gives. -/
def GiveT (w : Bool) (c : Dev nD) : sProp 𝕄 := fam 0 12 (fun j => (dutyTok ER (cCell w (pr w c)) 0 j : sProp 𝕄))

/-- What a device starts with. -/
def Start (m : (ℓ : Loc nD τ sig) → Buf (Elt F) ℓ) (c : Dev nD) : sProp 𝕄 :=
  iprop(Landing false c ∗ Landing true c ∗ BarS c
    ∗ (fam 0 4 (fun j => free c (slotM bS j)) ∗ fam 0 4 (fun j => free c (slotM bL j)) ∗ fam 0 4 (fun j => free c (slotM bR j)))
    ∗ (G m c 0 0 0 ∗ G m c 1 0 0 ∗ G m c 2 0 0 ∗ G m c 3 16 0 ∗ G m c 4 0 0 ∗ G m c 5 16 0 ∗ G m c 6 0 0 ∗ G m c 7 0 0)
    ∗ (Take false c 0 ∗ Take true c 0) ∗ (GiveT false c ∗ GiveT true c))

/-- What it ends with. -/
def Fin' (m : (ℓ : Loc nD τ sig) → Buf (Elt F) ℓ) (c : Dev nD) : sProp 𝕄 :=
  iprop((G m c 0 16 16 ∗ G m c 1 16 16 ∗ G m c 2 16 16 ∗ G m c 3 16 16 ∗ G m c 4 16 16 ∗ G m c 5 16 16 ∗ G m c 6 16 16 ∗ G m c 7 16 16)
    ∗ (fam 12 16 (fun j => free c (slotM bS j)) ∗ fam 12 16 (fun j => free c (slotM bL j)) ∗ fam 12 16 (fun j => free c (slotM bX j))
      ∗ fam 12 16 (fun j => free c (slotM bR j)) ∗ fam 12 16 (fun j => free c (slotM bY j)))
    ∗ (taken false c 12 ∗ taken true c 12) ∗ atPos ER (barCell c) 1 ∅ 0)

/-- At the end nothing is owed. -/
theorem Odebt_done : Odebt c 16 16 16 14 = 0 := by
  unfold Odebt
  rw [Finset.Ico_self, Finset.Ico_eq_empty (by decide), Finset.Ico_eq_empty (by decide)]
  simp only [Finset.sum_empty, add_zero]

/-- Before any credit is given. -/
theorem give_start (w : Bool) : iprop(Landed w c ∗ GiveT w c) ⊢ Gv (F := F) w c 0 := by
  unfold Gv Give Landed GiveT
  rw [show min 0 12 = 0 from rfl, fam_nil (by decide : 0 ≤ 12), Finset.range_zero, bigSep_empty]
  iintro ⟨H1, H2⟩
  isplitl [H1 H2]
  · isplitl [H1]; · iexact H1
    isplitl [H2]; · iexact H2
    iempintro
  iempintro

attribute [local irreducible] trips

/-- All sixteen trips. -/
theorem tr_all : Tr m κ ι c (St m c 0) (St m c 16) (trips c 16) := by
  have h : ∀ n : ℕ, n ≤ 16 → Tr m κ ι c (St m c 0) (St m c n) (trips c n) := fun n hn => tr_trips hn
  exact h 16 (Nat.le_refl 16)

/-- The whole body. -/
theorem tr_body : Tr m κ ι c iprop(owesE c (Odebt0 c) ∗ Start m c) iprop(owesE c 0 ∗ Fin' m c) (bodyOf c) := fun Φ => by
  unfold Start bodyOf
  iintro ⟨#HK, ⟨HO, HLx, HLy, HB, ⟨HbS, HbL, HbR⟩, ⟨H0, H1, H2, H3, H4, H5, H6, H7⟩, ⟨HTx, HTy⟩, ⟨HGx, HGy⟩⟩, HΦ⟩
  iapply (go_on tr_hands Φ)
  isplitr; · iexact HK
  isplitl [HO HLx HLy HB]
  · isplitl [HO]; · iexact HO
    isplitl [HLx]; · iexact HLx
    isplitl [HLy] <;> iassumption
  iintro ⟨HO, HLx, HLy, ⟨Hbx, Hby⟩, Hbar⟩
  iapply (go_on tr_fillUp Φ)
  isplitr; · iexact HK
  isplitl [HO HbS HbL H0 H1 H2 HTx Hbx]
  · isplitl [HO]; · iexact HO
    isplitl [HbS HbL H0 H1]
    · isplitl [HbS]; · iexact HbS
      isplitl [HbL]; · iexact HbL
      isplitl [H0] <;> iassumption
    isplitl [H2]; · iexact H2
    unfold Tkn
    isplitl [Hbx]; · iexact Hbx
    iexact HTx
  iintro ⟨HO, H0, H1, H2, HTx⟩
  ihave HGx := (give_start (F := F) (c := c) false) $$ [HLx HGx]
  · isplitl [HLx] <;> iassumption
  ihave HGy := (give_start (F := F) (c := c) true) $$ [HLy HGy]
  · isplitl [HLy] <;> iassumption
  iapply (go_on tr_all Φ)
  isplitr; · iexact HK
  isplitl [HO H0 H1 H2 H3 H4 H5 H6 H7 HTx HTy Hby HGx HGy HbR]
  · unfold St RS
    isplitl [HO]; · iexact HO
    isplitl [H0]; · iexact H0
    isplitl [H1]; · iexact H1
    isplitl [H2]; · iexact H2
    isplitl [H3]; · iexact H3
    isplitl [H5]; · iexact H5
    isplitl [H7]; · iexact H7
    isplitl [H4 H6 HbR]
    · isplitl [H4]; · iexact H4
      isplitl [H6] <;> iassumption
    isplitl [HTx]; · iexact HTx
    isplitl [HTy Hby]
    · unfold Tkn
      isplitl [Hby]; · iexact Hby
      iexact HTy
    isplitl [HGx]; · iexact HGx
    isplitl [HGy]; · iexact HGy
    rw [fam_nil (by decide : 0 ≤ 12)]
    iempintro
  have e : St m c 16 = iprop(owesE c (Odebt c 16 16 16 14)
    ∗ G m c 0 16 16 ∗ G m c 1 16 16 ∗ G m c 2 16 12 ∗ G m c 3 16 16
    ∗ G m c 5 16 14 ∗ G m c 7 14 14 ∗ (G m c 4 16 12 ∗ G m c 6 16 12 ∗ fam 16 4 (fun j => free c (slotM bR j)))
    ∗ (barPay false (pr false c) ∗ Take false c 12) ∗ (barPay true (pr true c) ∗ Take true c 12) ∗ (Give false c 12 ∗ fam 12 16 (fun j => free c (slotM bX j)))
    ∗ (Give true c 12 ∗ fam 12 14 (fun j => free c (slotM bY j))) ∗ fam 12 16 (fun j => free c (slotM bL j))) := rfl
  rw [e]
  iintro ⟨HO, H0, H1, H2, H3, H5, H7, ⟨H4, H6, -⟩, ⟨-, HTx⟩, ⟨-, HTy⟩, ⟨-, HbX⟩, ⟨-, HbY⟩, HbL⟩
  iapply (tr_endUp Φ)
  isplitr; · iexact HK
  isplitl [HO H5 H7 HbY H2 H4 H6]
  · isplitl [HO H5 H7 HbY]
    · isplitl [HO]; · iexact HO
      isplitl [H5]; · iexact H5
      isplitl [H7] <;> iassumption
    isplitl [H2]; · iexact H2
    isplitl [H4] <;> iassumption
  rw [Odebt_done]
  iintro ⟨⟨H5, H7, HbY⟩, HO, H2, H4, H6, HbS, HbR⟩
  iapply HΦ
  isplitl [HO]; · iexact HO
  unfold Fin' Take
  icases HTx with ⟨-, HTx⟩
  icases HTy with ⟨-, HTy⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [HbS HbL HbX HbR HbY]
  · isplitl [HbS]; · iexact HbS
    isplitl [HbL]; · iexact HbL
    isplitl [HbX]; · iexact HbX
    isplitl [HbR] <;> iassumption
  isplitl [HTx HTy]
  · isplitl [HTx] <;> iassumption
  iexact Hbar

end Cert.KernelIdeal
-- ==== Proof.Geo.lean ====
/-
# Where chunks and slots lie

Which rows a chunk holds, and a buffer as its slots.
-/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {c : Dev nD}

/-! ## Where the chunks lie -/

/-- Chunk `k` of the half kept starts at row `512 k` of that half. -/
theorem off_keep : ∀ (d : Dev nD) (k : Fin 16), k0_off2 d (BitVec.ofNat 32 (512 * k.val)) = ![8192 * rOf d + 512 * k.val, 0] := by
  decide +kernel
/-- Chunk `k` of the half sent starts at row `512 k` of the other half. -/
theorem off_send : ∀ (d : Dev nD) (k : Fin 16), k0_off1 d (BitVec.ofNat 32 (512 * k.val)) = ![8192 * (1 - rOf d) + 512 * k.val, 0] := by
  decide +kernel

/-- A half is the first or the second. -/
theorem rOf_lt (d : Dev nD) : rOf d < 2 := Nat.mod_lt _ (by decide)
/-- Neighbours along either axis sum different halves. -/
theorem rOf_xp (d : Dev nD) : rOf (xp d) = 1 - rOf d := by revert d; decide
/-- The y-neighbour keeps the other half. -/
theorem rOf_yp (d : Dev nD) : rOf (yp d) = 1 - rOf d := by revert d; decide
/-- The other half's other half is the half itself. -/
theorem rOf_flip (d : Dev nD) : 1 - (1 - rOf d) = rOf d := by have := rOf_lt d; omega

/-- Rectangles that start at equal places are equal. -/
theorem unit_congr {s : Shape} {o o' : Fin s.rank → Nat} {z : Fin s.rank → Nat} (h : ∀ a, o a + z a ≤ s.size a) (h' : ∀ a, o' a + z a ≤ s.size a)
    (e : o = o') : Rect.unit (s := s) o z h = Rect.unit o' z h' := by subst e; rfl

/-- What the x-neighbour sends is what the device keeps. -/
theorem sendR_xp (d : Dev nD) (k : ℕ) : sendR (xp d) k = keepR d k :=
  unit_congr _ _ (by rw [off_send (xp d) (f16 k), off_keep d (f16 k), rOf_xp, rOf_flip])
/-- What the y-neighbour keeps is what the device sends. -/
theorem keepR_yp (d : Dev nD) (k : ℕ) : keepR (yp d) k = sendR d k :=
  unit_congr _ _ (by rw [off_keep (yp d) (f16 k), off_send d (f16 k), rOf_yp])

/-- An element lies in a chunk when its row does. -/
theorem mem_rows {o : Fin 2 → Nat} {n : ℕ} (h : ∀ a, o a + S512x1024.size a ≤ S16384x1024.size a) (e : o = ![n, 0]) (i : S16384x1024.Idx) :
    i ∈ (Rect.unit (s := S16384x1024) o S512x1024.size h).set ↔ n ≤ (i 0).val ∧ (i 0).val < n + 512 := by
  subst e
  rw [Rect.mem_set_unit]
  constructor
  · intro hi; exact hi 0
  · intro hi a
    fin_cases a
    · exact hi
    · exact ⟨Nat.zero_le _, (show (i 1).val < 0 + 1024 by have : (i 1).val < 1024 := (i 1).isLt; omega)⟩

/-- An element's row says whether it lies in a kept chunk. -/
theorem mem_keepR (d : Dev nD) (k : ℕ) (i : S16384x1024.Idx) :
    i ∈ (keepR d k).set ↔ (i 0).val / 512 = 16 * rOf d + k % 16 := by
  rw [mem_rows _ (off_keep d (f16 k))]
  show _ ↔ _
  simp only [f16]
  omega
/-- An element's row says whether it lies in a sent chunk. -/
theorem mem_sendR (d : Dev nD) (k : ℕ) (i : S16384x1024.Idx) :
    i ∈ (sendR d k).set ↔ (i 0).val / 512 = 16 * (1 - rOf d) + k % 16 := by
  rw [mem_rows _ (off_send d (f16 k))]
  show _ ↔ _
  simp only [f16]
  omega

/-- An element of a four-slot buffer lies in the slot of its first coordinate. -/
theorem mem_slotR (k : ℕ) (i : S4x512x1024.Idx) : i ∈ (slotR k).set ↔ (i 0).val = k % 4 := by
  rw [Rect.mem_set_unit]
  constructor
  · intro hi
    have h0 : k % 4 ≤ (i 0).val ∧ (i 0).val < k % 4 + 1 := hi 0
    omega
  · intro hi a
    fin_cases a
    · show k % 4 ≤ (i 0).val ∧ (i 0).val < k % 4 + 1; omega
    · exact ⟨Nat.zero_le _, (show (i 1).val < 0 + 512 by have : (i 1).val < 512 := (i 1).isLt; omega)⟩
    · exact ⟨Nat.zero_le _, (show (i 2).val < 0 + 1024 by have : (i 2).val < 1024 := (i 2).isLt; omega)⟩

/-! ## A buffer as its four slots -/

/-- A slot's elements, in the buffer that holds it. -/
theorem slotM_set (b : Memref sig .tc .vmem S4x512x1024 .f32) (k : ℕ) : (slotM b k).view.set = (slotR k).set.map b.view.emb :=
  (View.set_reshape _ _).trans (View.set_slice _ _)

/-- Different slots share no element. -/
theorem slots_disj (b : Memref sig .tc .vmem S4x512x1024 .f32) :
    ∀ t ∈ Finset.Ico 0 4, ∀ t' ∈ Finset.Ico 0 4, t ≠ t' → Disjoint (slotM b t).view.set (slotM b t').view.set := by
  intro t ht t' ht' hne
  rw [slotM_set, slotM_set, Finset.disjoint_map, Finset.disjoint_left]
  intro i hi hi'
  rw [mem_slotR] at hi hi'
  rw [Finset.mem_Ico] at ht ht'
  omega
/-- The four slots make up the buffer. -/
theorem slots_cover (b : Memref sig .tc .vmem S4x512x1024 .f32) :
    (Finset.Ico 0 4).biUnion (fun t => (slotM b t).view.set) = b.view.set := by
  ext i
  rw [Finset.mem_biUnion]
  constructor
  · rintro ⟨t, -, h⟩
    rw [slotM_set] at h
    obtain ⟨j, -, rfl⟩ := Finset.mem_map.mp h
    exact View.emb_mem_set _ j
  · intro h
    obtain ⟨j, -, rfl⟩ := Finset.mem_map.mp h
    have hj : (j 0).val < 4 := (j 0).isLt
    refine ⟨(j 0).val, Finset.mem_Ico.mpr ⟨Nat.zero_le _, hj⟩, ?_⟩
    rw [slotM_set]
    exact Finset.mem_map_of_mem _ ((mem_slotR _ _).mpr (by omega))

/-- A buffer held whole is four free slots. -/
theorem slots_split (b : Memref sig .tc .vmem S4x512x1024 .f32) (f : Buf (Elt F) (b.view.loc (c : Thread nD τ))) :
    ((b.view.loc (c : Thread nD τ)) ↦[b.view.set]{fullShare} f : sProp 𝕄) ⊢ fam 0 4 (fun j => free c (slotM b j)) := by
  have h := pointsTo_biUnion (ℓ := b.view.loc (c : Thread nD τ)) (q := fullShare) (f := f) (Ix := ℕ) (Name := ℕ) (U := UU) (Lvl := ℕ) (Finset.Ico 0 4) (fun t => (slotM b t).view.set) (slots_disj b)
  rw [slots_cover b] at h
  rw [h]
  unfold fam
  refine bigSep_mono fun t _ => ?_
  show ((b.view.loc (c : Thread nD τ)) ↦[(slotM b t).view.set]{fullShare} f : sProp 𝕄) ⊢ free c (slotM b t)
  unfold free Release.slot
  iintro H; iexists f; iexact H

/-- Four free slots are the buffer at some contents. -/
theorem slots_join (b : Memref sig .tc .vmem S4x512x1024 .f32) (f₀ : Buf (Elt F) (b.view.loc (c : Thread nD τ))) :
    (fam 0 4 (fun j => free c (slotM b j)) : sProp 𝕄)
      ⊢ iprop(∃ f : Buf (Elt F) (b.view.loc (c : Thread nD τ)), (b.view.loc (c : Thread nD τ)) ↦[b.view.set]{fullShare} f) := by
  have : Nonempty (Buf (Elt F) (b.view.loc (c : Thread nD τ))) := ⟨f₀⟩
  unfold fam
  refine (show _ ⊢ bigSep (Finset.Ico 0 4) (fun t => iprop(∃ f : Buf (Elt F) (b.view.loc (c : Thread nD τ)),
    (b.view.loc (c : Thread nD τ)) ↦[(slotM b t).view.set]{fullShare} f)) from Idealize.SL.BI.Entails.refl _).trans ?_
  refine (Idealize.SL.BI.bigSep_exists_pi (Finset.Ico 0 4) (fun t (f : Buf (Elt F) (b.view.loc (c : Thread nD τ))) =>
    ((b.view.loc (c : Thread nD τ)) ↦[(slotM b t).view.set]{fullShare} f : sProp 𝕄))).trans ?_
  iintro ⟨%fs, H⟩
  have h := pointsTo_biUnion_join (q := fullShare) (Ix := ℕ) (Name := ℕ) (U := UU) (Lvl := ℕ) (Finset.Ico 0 4) (fun t => (slotM b t).view.set) fs f₀ (slots_disj b)
  rw [slots_cover b] at h
  icases h $$ H with ⟨%g, -, H⟩
  iexists g; iexact H

/-- The last four chunks' slots are the four slots. -/
theorem slots_last (b : Memref sig .tc .vmem S4x512x1024 .f32) :
    (fam 12 16 (fun j => free c (slotM b j)) : sProp 𝕄) = fam 0 4 (fun j => free c (slotM b j)) := by
  rw [fam_front (by decide), fam_front (by decide), fam_front (by decide), fam_front (by decide), fam_nil (by decide),
    fam_front (a := 0) (by decide), fam_front (by decide), fam_front (by decide), fam_front (by decide), fam_nil (by decide)]

/-! ## An array as its thirty-two chunks -/

/-- The chunks of one half. -/
def halfS (n : ℕ) : Finset S16384x1024.Idx := Finset.univ.filter fun i => (i 0).val / 8192 = n

/-- The kept chunks make up the kept half. -/
theorem keep_cover (d : Dev nD) : (Finset.Ico 0 16).biUnion (fun k => (keepR d k).set) = halfS (rOf d) := by
  ext i
  have := rOf_lt d
  simp only [Finset.mem_biUnion, mem_keepR, halfS, Finset.mem_filter, Finset.mem_univ, true_and, Finset.mem_Ico]
  constructor
  · rintro ⟨k, hk, h⟩; omega
  · intro h; exact ⟨(i 0).val / 512 % 16, by omega, by omega⟩
/-- The sent chunks make up the sent half. -/
theorem send_cover (d : Dev nD) : (Finset.Ico 0 16).biUnion (fun k => (sendR d k).set) = halfS (1 - rOf d) := by
  rw [← rOf_yp, ← keep_cover]
  simp only [keepR_yp]
/-- Different kept rectangles share no element. -/
theorem keep_disj (d : Dev nD) : ∀ t ∈ Finset.Ico 0 16, ∀ t' ∈ Finset.Ico 0 16, t ≠ t' → Disjoint (keepR d t).set (keepR d t').set := by
  intro t ht t' ht' hne
  rw [Finset.disjoint_left]
  intro i hi hi'
  rw [mem_keepR] at hi hi'
  rw [Finset.mem_Ico] at ht ht'
  omega
/-- Different sent rectangles share no element. -/
theorem send_disj (d : Dev nD) : ∀ t ∈ Finset.Ico 0 16, ∀ t' ∈ Finset.Ico 0 16, t ≠ t' → Disjoint (sendR d t).set (sendR d t').set := by
  intro t ht t' ht' hne
  have := keep_disj (yp d) t ht t' ht' hne
  rwa [keepR_yp, keepR_yp] at this
/-- The two halves share no element. -/
theorem halves_disj (d : Dev nD) : Disjoint (halfS (1 - rOf d)) (halfS (rOf d)) := by
  rw [Finset.disjoint_left]
  intro i hi hi'
  have := rOf_lt d
  simp only [halfS, Finset.mem_filter, Finset.mem_univ, true_and] at hi hi'
  omega
/-- The two halves make up the array. -/
theorem halves_cover (d : Dev nD) : halfS (1 - rOf d) ∪ halfS (rOf d) = Finset.univ := by
  ext i
  have := rOf_lt d
  have hi : (i 0).val < 16384 := (i 0).isLt
  simp only [halfS, Finset.mem_union, Finset.mem_filter, Finset.mem_univ, true_and, iff_true]
  omega

end Cert.KernelIdeal
-- ==== Proof.Arrays.lean ====
/-
# The arrays as chunks

The argument and the result, whole and chunk by chunk.
-/
module

public import proofs.«01_k».proof.Proof.Geo

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {c : Dev nD}

/-! ## The neighbours' chunks -/

variable {o o' : Fin 2 → Nat} (h : ∀ x, o x + S512x1024.size x ≤ S16384x1024.size x) (h' : ∀ x, o' x + S512x1024.size x ≤ S16384x1024.size x)

/-- Chunks that start at equal places read the same. -/
theorem chunk_read (e : o = o') (f : FVec F S16384x1024 .f32) :
    ((aX.slice (Rect.unit (s := S16384x1024) o S512x1024.size h) (fun _ => rfl)).view.read (Val := Elt F) f : FVec F S512x1024 .f32)
      = (aX.slice (Rect.unit (s := S16384x1024) o' S512x1024.size h') (fun _ => rfl)).view.read (Val := Elt F) f := by subst e; rfl

/-- What the x-neighbour sends starts where the device's own kept chunk starts. -/
theorem off_xp (d : Dev nD) (k : ℕ) : k0_off1 (xp d) (BitVec.ofNat 32 (512 * (k % 16))) = k0_off2 d (BitVec.ofNat 32 (512 * (k % 16))) := by
  have h1 := off_send (xp d) (f16 k)
  have h2 := off_keep d (f16 k)
  rw [rOf_xp, rOf_flip] at h1
  exact h1.trans h2.symm
/-- What the y-neighbour keeps starts where the device's own sent chunk starts. -/
theorem off_yp (d : Dev nD) (k : ℕ) : k0_off2 (yp d) (BitVec.ofNat 32 (512 * (k % 16))) = k0_off1 d (BitVec.ofNat 32 (512 * (k % 16))) := by
  have h1 := off_keep (yp d) (f16 k)
  have h2 := off_send d (f16 k)
  rw [rOf_yp] at h1
  exact h1.trans h2.symm

/-- What the x-neighbour sends is what a device keeps. -/
theorem read_xp (d : Dev nD) (k : ℕ) (f : FVec F S16384x1024 .f32) :
    ((sendM aX (xp d) k).view.read (Val := Elt F) f : FVec F S512x1024 .f32) = (keepM aX d k).view.read (Val := Elt F) f :=
  chunk_read _ _ (off_xp d k) f
/-- What the y-neighbour keeps is what a device does not keep. -/
theorem read_yp (d : Dev nD) (k : ℕ) (f : FVec F S16384x1024 .f32) :
    ((keepM aX (yp d) k).view.read (Val := Elt F) f : FVec F S512x1024 .f32) = (sendM aX d k).view.read (Val := Elt F) f :=
  chunk_read _ _ (off_yp d k) f
/-! ## An array as its thirty-two chunks -/

/-- The sixteen sent chunks of an array make up the half that is sent. -/
theorem send_union (a : Memref sig .tc .hbm S16384x1024 .f32) (d : Dev nD) :
    (Finset.Ico 0 16).biUnion (fun k => (sendM a d k).view.set) = (halfS (1 - rOf d)).map a.view.emb := by
  rw [← send_cover]
  ext i
  simp only [Finset.mem_biUnion, Finset.mem_map, Memref.slice, View.set_slice]
  constructor
  · rintro ⟨k, hk, j, hj, rfl⟩; exact ⟨j, ⟨k, hk, hj⟩, rfl⟩
  · rintro ⟨j, ⟨k, hk, hj⟩, rfl⟩; exact ⟨k, hk, j, hj, rfl⟩
/-- The sixteen kept chunks make up the half that is kept. -/
theorem keep_union (a : Memref sig .tc .hbm S16384x1024 .f32) (d : Dev nD) :
    (Finset.Ico 0 16).biUnion (fun k => (keepM a d k).view.set) = (halfS (rOf d)).map a.view.emb := by
  rw [← keep_cover]
  ext i
  simp only [Finset.mem_biUnion, Finset.mem_map, Memref.slice, View.set_slice]
  constructor
  · rintro ⟨k, hk, j, hj, rfl⟩; exact ⟨j, ⟨k, hk, hj⟩, rfl⟩
  · rintro ⟨j, ⟨k, hk, hj⟩, rfl⟩; exact ⟨k, hk, j, hj, rfl⟩
/-- Different sent chunks share no element. -/
theorem send_apart (a : Memref sig .tc .hbm S16384x1024 .f32) (d : Dev nD) :
    ∀ t ∈ Finset.Ico 0 16, ∀ t' ∈ Finset.Ico 0 16, t ≠ t' → Disjoint (sendM a d t).view.set (sendM a d t').view.set := by
  intro t ht t' ht' hne
  have h := (Finset.disjoint_map a.view.emb).mpr (send_disj d t ht t' ht' hne)
  rw [← View.set_slice, ← View.set_slice] at h
  exact h
/-- Different kept chunks share no element. -/
theorem keep_apart (a : Memref sig .tc .hbm S16384x1024 .f32) (d : Dev nD) :
    ∀ t ∈ Finset.Ico 0 16, ∀ t' ∈ Finset.Ico 0 16, t ≠ t' → Disjoint (keepM a d t).view.set (keepM a d t').view.set := by
  intro t ht t' ht' hne
  have h := (Finset.disjoint_map a.view.emb).mpr (keep_disj d t ht t' ht' hne)
  rw [← View.set_slice, ← View.set_slice] at h
  exact h

/-- A whole array is the chunks sent and the chunks kept. -/
theorem chunks_eq (a : Memref sig .tc .hbm S16384x1024 .f32) (f : Buf (Elt F) (a.view.loc (c : Thread nD τ))) :
    ((a.view.loc (c : Thread nD τ)) ↦[a.view.set]{fullShare} f : sProp 𝕄)
      ⊣⊢ iprop(fam 0 16 (fun k => (a.view.loc (c : Thread nD τ)) ↦[(sendM a c k).view.set]{fullShare} f)
        ∗ fam 0 16 (fun k => (a.view.loc (c : Thread nD τ)) ↦[(keepM a c k).view.set]{fullShare} f)) := by
  have h1 := pointsTo_biUnion (ℓ := a.view.loc (c : Thread nD τ)) (q := fullShare) (f := f) (Ix := ℕ) (Name := ℕ) (U := UU) (Lvl := ℕ) (Finset.Ico 0 16)
    (fun t => (sendM a c t).view.set) (send_apart a c)
  have h2 := pointsTo_biUnion (ℓ := a.view.loc (c : Thread nD τ)) (q := fullShare) (f := f) (Ix := ℕ) (Name := ℕ) (U := UU) (Lvl := ℕ) (Finset.Ico 0 16)
    (fun t => (keepM a c t).view.set) (keep_apart a c)
  rw [send_union] at h1
  rw [keep_union] at h2
  have hs : a.view.set = (halfS (1 - rOf c)).map a.view.emb ∪ (halfS (rOf c)).map a.view.emb := by
    rw [← Finset.map_union, halves_cover]; rfl
  have hd : Disjoint ((halfS (1 - rOf c)).map a.view.emb) ((halfS (rOf c)).map a.view.emb) := (Finset.disjoint_map _).mpr (halves_disj c)
  unfold fam
  rw [← h1, ← h2, hs]
  exact pointsTo_union hd

/-- Elements at known contents hold what they read as. -/
theorem holds_of {sp : Space} {s : Shape} (M : Memref sig .tc sp s .f32) (q : PosShare TreeShare) (f : Buf (Elt F) (M.view.loc (c : Thread nD τ)))
    {v : FVec F s .f32} (h : M.view.read (Val := Elt F) f = v) :
    ((M.view.loc (c : Thread nD τ)) ↦[M.view.set]{q} f : sProp 𝕄) ⊢ holds c M q v := by
  unfold holds
  iintro H; iexists f
  isplitr
  · ipureintro; exact h
  iexact H
/-- A cast along an equality of types is injective. -/
theorem cast_inj_of {α β : Type} (e : α = β) {x y : α} (h : cast e x = cast e y) : x = y := by subst e; exact h
/-- And back, at any contents that read alike. -/
theorem holds_to {sp : Space} {s : Shape} (M : Memref sig .tc sp s .f32) (q : PosShare TreeShare) (g : Buf (Elt F) (M.view.loc (c : Thread nD τ)))
    {v : FVec F s .f32} (h : M.view.read (Val := Elt F) g = v) :
    holds c M q v ⊢ ((M.view.loc (c : Thread nD τ)) ↦[M.view.set]{q} g : sProp 𝕄) := by
  unfold holds
  iintro ⟨%f, %hf, H⟩
  have e : ∀ i ∈ M.view.set, f i = g i := by
    intro i hi
    obtain ⟨j, -, rfl⟩ := Finset.mem_map.mp hi
    have := congrFun (hf.trans h.symm) j
    exact cast_inj_of _ this
  have h' : ((M.view.loc (c : Thread nD τ)) ↦[M.view.set]{q} f : sProp 𝕄) = ((M.view.loc (c : Thread nD τ)) ↦[M.view.set]{q} g) := pointsTo_congr e
  ihave H := (Entails.of_eq h') $$ H
  iexact H

/-! ## The result's chunks -/

/-- In the final array the kept chunks read as the device's reduced chunks. -/
theorem read_keep (k : ℕ) : (keepM aO c k).view.read (Val := Elt F) (outF m c) = rv m c k := by
  funext i
  show outF m c ((keepR c k).emb i) = addf (kv m c k) (sv m (xp c) k) i
  have hm := (mem_keepR c k ((keepR c k).emb i)).mp (by rw [← Rect.map_emb_univ]; exact Finset.mem_map_of_mem _ (Finset.mem_univ i))
  unfold outF
  rw [if_pos (by omega)]
  have hs : sv m (xp c) k = (keepM aX c k).view.read (Val := Elt F) (xv m (xp c)) := read_xp c k _
  rw [hs]
  rfl
/-- The other chunks read as the y-neighbour's reduced chunks. -/
theorem read_send (k : ℕ) : (sendM aO c k).view.read (Val := Elt F) (outF m c) = rv m (yp c) k := by
  funext i
  show outF m c ((sendR c k).emb i) = addf (kv m (yp c) k) (sv m (xp (yp c)) k) i
  have hm := (mem_sendR c k ((sendR c k).emb i)).mp (by rw [← Rect.map_emb_univ]; exact Finset.mem_map_of_mem _ (Finset.mem_univ i))
  have hr := rOf_lt c
  unfold outF
  rw [if_neg (by omega)]
  have hs : sv m (xp (yp c)) k = (sendM aX c k).view.read (Val := Elt F) (xv m (xp (yp c))) := by
    exact (read_xp (yp c) k _).trans (read_yp c k _)
  have hk : kv m (yp c) k = (sendM aX c k).view.read (Val := Elt F) (xv m (yp c)) := read_yp c k _
  rw [hs, hk]
  rfl

end Cert.KernelIdeal
-- ==== Proof.Fams.lean ====
/-
# Families of assertions

Intervals, the cells of a device, its semaphores.
-/
module

public import proofs.«01_k».proof.Proof.Steps

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {c : Dev nD}

/-! ## Families over intervals -/

/-- A family depends only on its members. -/
theorem fam_congr {a b : ℕ} {P Q : ℕ → sProp 𝕄} (h : ∀ k, a ≤ k → k < b → P k = Q k) : fam a b P = fam a b Q := by
  unfold fam
  exact bigSep_congr fun k hk => h k (Finset.mem_Ico.mp hk).1 (Finset.mem_Ico.mp hk).2
/-- A family follows from another member by member. -/
theorem fam_mono {a b : ℕ} {P Q : ℕ → sProp 𝕄} (h : ∀ k, P k ⊢ Q k) : fam a b P ⊢ fam a b Q := by
  unfold fam
  exact bigSep_mono fun k _ => h k
/-- A family of pairs is a pair of families. -/
theorem fam_sep (a b : ℕ) (P Q : ℕ → sProp 𝕄) : fam a b (fun k => iprop(P k ∗ Q k)) = iprop(fam a b P ∗ fam a b Q) := by
  unfold fam
  exact bigSep_sep' _ _ _
/-- A family over a range is cut in two at any place. -/
theorem fam_append {a b d : ℕ} (h : a ≤ b) (h' : b ≤ d) (P : ℕ → sProp 𝕄) : fam a d P = iprop(fam a b P ∗ fam b d P) := by
  unfold fam
  rw [← Finset.Ico_union_Ico_eq_Ico h h', bigSep_union (Finset.Ico_disjoint_Ico_consecutive a b d)]
  rfl
/-- A family over a moved range. -/
theorem fam_shift (a b s : ℕ) (P : ℕ → sProp 𝕄) : fam (a + s) (b + s) P = fam a b (fun k => P (k + s)) := by
  unfold fam
  rw [show Finset.Ico (a + s) (b + s) = (Finset.Ico a b).map (addRightEmbedding s) by
    ext x
    simp only [Finset.mem_Ico, Finset.mem_map, addRightEmbedding_apply]
    exact ⟨fun h => ⟨x - s, by omega, by omega⟩, fun ⟨y, hy, e⟩ => by omega⟩, bigSep_map]
  rfl
/-- A family over `Fin n` is one over the numbers below `n`. -/
theorem fam_fin (n : ℕ) (P : ℕ → sProp 𝕄) : bigSep (Finset.univ : Finset (Fin n)) (fun j => P j.val) = fam 0 n P := by
  unfold fam
  rw [show Finset.Ico 0 n = (Finset.univ : Finset (Fin n)).map Fin.valEmbedding by
    ext x
    simp only [Finset.mem_Ico, Nat.zero_le, true_and, Finset.mem_map, Finset.mem_univ, Fin.valEmbedding_apply]
    exact ⟨fun h => ⟨⟨x, h⟩, rfl⟩, fun ⟨y, hy⟩ => hy ▸ y.isLt⟩, bigSep_map]
  rfl
/-- `b` at a time. -/
theorem fam_rows (b n : ℕ) (P : ℕ → sProp 𝕄) : fam 0 (b * n) P = fam 0 n (fun a => fam 0 b (fun k => P (b * a + k))) := by
  induction n with
  | zero => rw [fam_nil (by omega), fam_nil (by omega)]
  | succ n ih =>
    have hle : b * n ≤ b * (n + 1) := Nat.mul_le_mul_left b (Nat.le_succ n)
    rw [fam_back (Nat.zero_le n), ← ih, fam_append (Nat.zero_le (b * n)) hle]
    have h := fam_shift 0 b (b * n) P
    rw [Nat.zero_add, show b + b * n = b * (n + 1) by rw [Nat.mul_succ]; omega] at h
    have e : (fam 0 b fun k => P (k + b * n)) = fam 0 b fun k => P (b * n + k) := fam_congr fun k _ _ => by rw [Nat.add_comm]
    rw [h, e]
    exact BI.equiv_iff.mp ⟨BI.sep_comm, BI.sep_comm⟩

/-- A family over the eight kinds of copies, written out. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The 131 semaphores of a device: the barrier, the two credits and eight times sixteen copies'. -/
theorem allCells_eq (Φ : GSem nD τ sig → sProp 𝕄) :
    bigSep (Finset.univ : Finset (Fin 131)) (fun p => Φ (kcell (c, p)))
      = iprop(Φ (barCell c) ∗ Φ (cCell true c) ∗ Φ (cCell false c) ∗ bigSep (Finset.univ : Finset (Fin 8)) fun a => fam 0 16 (fun k => Φ (dcell c a k))) := by
  have h1 : bigSep (Finset.univ : Finset (Fin 131)) (fun p => Φ (kcell (c, p)))
      = bigSep (Finset.univ : Finset (Fin 131)) (fun p => (fun n : ℕ => Φ (kcell (c, ⟨n % 131, Nat.mod_lt _ (by decide)⟩))) p.val) :=
    bigSep_congr fun p _ => by
      show Φ (kcell (c, p)) = Φ (kcell (c, ⟨p.val % 131, _⟩))
      congr 3
      exact Fin.ext (Nat.mod_eq_of_lt p.isLt).symm
  have h2 : fam 0 128 (fun n : ℕ => Φ (kcell (c, ⟨n % 131, Nat.mod_lt _ (by decide)⟩)))
      = bigSep (Finset.univ : Finset (Fin 8)) fun a => fam 0 16 (fun k => Φ (dcell c a k)) := by
    rw [show 128 = 16 * 8 from rfl, fam_rows 16, ← fam_fin 8]
    refine bigSep_congr fun a _ => fam_congr fun k _ hk => ?_
    rw [← kcell_dma]
    congr 3
    apply Fin.ext
    show (16 * a.val + k) % 131 = 16 * a.val + k % 16
    have := a.isLt
    omega
  rw [h1, fam_fin 131 (fun n : ℕ => Φ (kcell (c, ⟨n % 131, Nat.mod_lt _ (by decide)⟩))), fam_back (Nat.zero_le 130), fam_back (Nat.zero_le 129), fam_back (Nat.zero_le 128), h2,
    ← kcell_bar, ← kcell_credit, ← kcell_credit]
  rfl

/-! ## The semaphores of a device -/

/-- The kernel's own semaphores: the copies' and the two credits. -/
def osem (p : Fin 130) : SemLoc sig := if h : p.val < 128 then .dma (⟨p.val, h⟩ : Fin 128) else .reg (⟨p.val - 128, by omega⟩ : Fin 3)

/-- The semaphores that the kernel allocates are the first 130. -/
theorem ownSemFacts : Pipeline.OwnSemFacts cfg0.spec osem := by decide +kernel

/-- The only other one is the barrier's. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All semaphores of a device at zero. -/
theorem sems_eq (c : Dev nD) :
    iprop(Pipeline.ownSems0 (Ix := ℕ) (Name := ℕ) (U := UU) (Lvl := ℕ) (Val := Elt F) (τ := τ) osem c ∗ unscopedSems0 c)
      = (bigSep (Finset.univ : Finset (Fin 131)) fun p => semVal (kcell (c, p)) 0 : sProp 𝕄) := by
  have h0 : Pipeline.ownSems0 (Ix := ℕ) (Name := ℕ) (U := UU) (Lvl := ℕ) (Val := Elt F) (τ := τ) osem c
      = (fam 0 130 (fun n : ℕ => semVal (kcell (c, ⟨n % 131, Nat.mod_lt _ (by decide)⟩)) 0) : sProp 𝕄) := by
    rw [← fam_fin 130]
    unfold Pipeline.ownSems0
    refine bigSep_congr fun p _ => ?_
    have : (⟨p.val % 131, Nat.mod_lt _ (by decide)⟩ : Fin 131) = ⟨p.val, by omega⟩ := Fin.ext (Nat.mod_eq_of_lt (by omega))
    rw [this]
    rfl
  have h1 : (bigSep (Finset.univ : Finset (Fin 131)) fun p => semVal (kcell (c, p)) 0 : sProp 𝕄)
      = bigSep (Finset.univ : Finset (Fin 131)) (fun p => (fun n : ℕ => semVal (kcell (c, ⟨n % 131, Nat.mod_lt _ (by decide)⟩)) 0) p.val) :=
    bigSep_congr fun p _ => by
      show semVal (kcell (c, p)) 0 = semVal (kcell (c, ⟨p.val % 131, _⟩)) 0
      congr 3
      exact Fin.ext (Nat.mod_eq_of_lt p.isLt).symm
  rw [h0, unscopedSems0_eq, h1, fam_fin 131 (fun n : ℕ => semVal (kcell (c, ⟨n % 131, Nat.mod_lt _ (by decide)⟩)) 0), fam_back (Nat.zero_le 130), ← kcell_bar]
  exact BI.equiv_iff.mp ⟨BI.sep_comm, BI.sep_comm⟩

/-- The numbering of semaphores names each once. -/
theorem kcell_injective : Function.Injective kcell := by
  rintro ⟨c, p⟩ ⟨c', p'⟩ h
  have h1 : c = c' := congrArg (fun g : GSem nD τ sig => g.1.1) h
  subst h1
  have h2 : (kcell (c, p)).2 = (kcell (c, p')).2 := congrArg Prod.snd h
  have hp := p.isLt
  have hp' := p'.isLt
  have : p.val = p'.val := by
    unfold kcell at h2
    dsimp only at h2
    split at h2 <;> split at h2
    · exact congrArg (fun x : Fin 128 => x.val) (SemLoc.dma.inj h2)
    · cases h2
    · cases h2
    · have := congrArg (fun x : Fin 3 => x.val) (SemLoc.reg.inj h2)
      dsimp only at this
      omega
  rw [Fin.ext this]

end Cert.KernelIdeal
-- ==== Proof.Border.lean ====
/-
# What a device starts from and ends with

The launch's pieces gathered into the body's start, and the body's end opened.
-/
module

public import proofs.«01_k».proof.Proof.Whole
public import proofs.«01_k».proof.Proof.Arrays
public import proofs.«01_k».proof.Proof.Fams

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {κ : GSem nD τ sig → ℕ} {ι : Key → ℕ} {c : Dev nD}

/-! ## What the launch deals a device -/

/-- The places of its cells, all at their start. -/
def Places (c : Dev nD) (r : ℕ) : sProp 𝕄 :=
  iprop(atPos ER (barCell c) r ∅ 0 ∗ atPos ER (cCell true c) r ∅ 0 ∗ atPos ER (cCell false c) r ∅ 0
    ∗ bigSep (Finset.univ : Finset (Fin 8)) fun a => fam 0 16 (fun k => atPos ER (dcell c a k) r ∅ 0))

/-- The duties of one kind of copy. -/
def DutK (c : Dev nD) (a : Fin 8) : sProp 𝕄 := fam 0 16 (fun k => dutyTok ER (dcell c a k) 0 0)
/-- The readers of the slots one neighbour writes. -/
def Rdr (w : Bool) (c : Dev nD) : sProp 𝕄 := fam 0 4 (fun j => Release.readerAt ES (key w c j) 0)
/-- What belongs to a device's cells and slots but is used by its neighbour in direction `w`. -/
def Mv (w : Bool) (c : Dev nD) : sProp 𝕄 :=
  iprop(DutK c (if w then 5 else 3) ∗ fam 0 16 (fun k => Release.writeTok ES (key w c k) (k / 4 + 1))
    ∗ fam 0 12 (fun j => dutyTok ER (cCell w c) 0 j) ∗ dutyTok ER (barCell c) 0 (if w then 1 else 0))
/-- What stays with it. -/
def Own (c : Dev nD) : sProp 𝕄 :=
  iprop(Places c 0 ∗ (Rdr false c ∗ Rdr true c) ∗ (DutK c 0 ∗ DutK c 1 ∗ DutK c 2 ∗ DutK c 4 ∗ DutK c 6 ∗ DutK c 7))
/-- What it starts with. -/
def Lin (c : Dev nD) : sProp 𝕄 := iprop(Own c ∗ Mv false (xp c) ∗ Mv true (yp c))
/-- The credits the neighbours' debts are worth. -/
def Creds (c : Dev nD) : sProp 𝕄 :=
  iprop(fam 0 16 (pend c 3) ∗ fam 0 16 (pend c 5) ∗ fam 0 12 (fun j => cred (tallyAt (cCell false c) j 1))
    ∗ fam 0 12 (fun j => cred (tallyAt (cCell true c) j 1)) ∗ cred (tallyAt (barCell c) 0 2))

/-- The argument and the result whole. -/
def ArgAt (c : Dev nD) (f : FVec F S16384x1024 .f32) : sProp 𝕄 := iprop(((c : Thread nD τ).loc main_arg0) ↦{fullShare} f)
@[inherit_doc ArgAt] def ResAt (c : Dev nD) (f : FVec F S16384x1024 .f32) : sProp 𝕄 := iprop(((c : Thread nD τ).loc main_v1) ↦{fullShare} f)
/-- The five buffers whole, at any contents. -/
def Bufs (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-! ## A buffer whole and in slots -/

/-- A whole buffer held element by element is the buffer held. -/
theorem whole_loc {sp : Space} {s : Shape} (b : Memref sig .tc sp s .f32) (hb : b.view.set = Finset.univ) (f : Buf (Elt F) (b.view.loc (c : Thread nD τ))) :
    ((b.view.loc (c : Thread nD τ)) ↦[b.view.set]{fullShare} f : sProp 𝕄) = ((b.view.loc (c : Thread nD τ)) ↦{fullShare} f) := by rw [hb]

/-- A whole buffer of four slots, at any contents, is four free slots. -/
theorem open_slots (b : Memref sig .tc .vmem S4x512x1024 .f32) (hb : b.view.set = Finset.univ) :
    (iprop(∃ f : Buf (Elt F) (b.view.loc (c : Thread nD τ)), (b.view.loc (c : Thread nD τ)) ↦{fullShare} f) : sProp 𝕄)
      ⊢ fam 0 4 (fun j => free c (slotM b j)) := by
  have h := fun f : Buf (Elt F) (b.view.loc (c : Thread nD τ)) => slots_split (c := c) b f
  simp only [whole_loc b hb] at h
  iintro ⟨%f, H⟩
  iapply (h f); iexact H
/-- The last four slots, free again, are the whole buffer at some contents. -/
theorem shut_slots (b : Memref sig .tc .vmem S4x512x1024 .f32) (hb : b.view.set = Finset.univ) (f₀ : Buf (Elt F) (b.view.loc (c : Thread nD τ))) :
    (fam 12 16 (fun j => free c (slotM b j)) : sProp 𝕄)
      ⊢ iprop(∃ f : Buf (Elt F) (b.view.loc (c : Thread nD τ)), (b.view.loc (c : Thread nD τ)) ↦{fullShare} f) := by
  have h := slots_join (F := F) (c := c) b f₀
  simp only [whole_loc b hb] at h
  rw [slots_last]
  exact h

/-- The five scratch buffers as five times four free slots. -/
theorem bufs_open : (Bufs c : sProp 𝕄) ⊢ iprop(fam 0 4 (fun j => free c (slotM bS j)) ∗ fam 0 4 (fun j => free c (slotM bL j)) ∗ fam 0 4 (fun j => free c (slotM bX j))
    ∗ fam 0 4 (fun j => free c (slotM bR j)) ∗ fam 0 4 (fun j => free c (slotM bY j))) := by
  unfold Bufs
  iintro ⟨H1, H2, H3, H4, H5⟩
  isplitl [H1]; · iapply (open_slots (F := F) (c := c) bS (View.set_whole _)); iexact H1
  isplitl [H2]; · iapply (open_slots (F := F) (c := c) bL (View.set_whole _)); iexact H2
  isplitl [H3]; · iapply (open_slots (F := F) (c := c) bX (View.set_whole _)); iexact H3
  isplitl [H4]; · iapply (open_slots (F := F) (c := c) bR (View.set_whole _)); iexact H4
  iapply (open_slots (F := F) (c := c) bY (View.set_whole _)); iexact H5
/-- The slots of the last four chunks give the five buffers back. -/
theorem bufs_shut (m : (ℓ : Loc nD τ sig) → Buf (Elt F) ℓ) : iprop(fam 12 16 (fun j => free c (slotM bS j)) ∗ fam 12 16 (fun j => free c (slotM bL j)) ∗ fam 12 16 (fun j => free c (slotM bX j))
    ∗ fam 12 16 (fun j => free c (slotM bR j)) ∗ fam 12 16 (fun j => free c (slotM bY j))) ⊢ (Bufs c : sProp 𝕄) := by
  unfold Bufs
  iintro ⟨H1, H2, H3, H4, H5⟩
  isplitl [H1]; · iapply (shut_slots (F := F) (c := c) bS (View.set_whole _) (m _)); iexact H1
  isplitl [H2]; · iapply (shut_slots (F := F) (c := c) bL (View.set_whole _) (m _)); iexact H2
  isplitl [H3]; · iapply (shut_slots (F := F) (c := c) bX (View.set_whole _) (m _)); iexact H3
  isplitl [H4]; · iapply (shut_slots (F := F) (c := c) bR (View.set_whole _) (m _)); iexact H4
  iapply (shut_slots (F := F) (c := c) bY (View.set_whole _) (m _)); iexact H5

/-! ## The arrays whole and in chunks -/

/-- The argument array, held whole, is its sixteen sent and sixteen kept chunks. -/
theorem arg_eq (f : FVec F S16384x1024 .f32) : (ArgAt c f : sProp 𝕄)
    ⊣⊢ iprop(fam 0 16 (fun k => (aX.view.loc (c : Thread nD τ)) ↦[(sendM aX c k).view.set]{fullShare} f)
        ∗ fam 0 16 (fun k => (aX.view.loc (c : Thread nD τ)) ↦[(keepM aX c k).view.set]{fullShare} f)) := by
  have h := chunks_eq (F := F) (c := c) aX f
  rw [whole_loc aX (View.set_whole _)] at h
  exact h
/-- The result array, held whole, is the same thirty-two chunks. -/
theorem res_eq (f : FVec F S16384x1024 .f32) : (ResAt c f : sProp 𝕄)
    ⊣⊢ iprop(fam 0 16 (fun k => (aO.view.loc (c : Thread nD τ)) ↦[(sendM aO c k).view.set]{fullShare} f)
        ∗ fam 0 16 (fun k => (aO.view.loc (c : Thread nD τ)) ↦[(keepM aO c k).view.set]{fullShare} f)) := by
  have h := chunks_eq (F := F) (c := c) aO f
  rw [whole_loc aO (View.set_whole _)] at h
  exact h

/-- The argument array opened into chunks at their contents. -/
theorem arg_open : (ArgAt c (xv m c) : sProp 𝕄) ⊢ iprop(fam 0 16 (fun k => holds c (sendM aX c k) fullShare (sv m c k))
    ∗ fam 0 16 (fun k => holds c (keepM aX c k) fullShare (kv m c k))) :=
  (arg_eq (xv m c)).1.trans (BI.sep_mono (fam_mono fun k => holds_of (sendM aX c k) fullShare (xv m c) rfl) (fam_mono fun k => holds_of (keepM aX c k) fullShare (xv m c) rfl))
/-- And put together again, unchanged. -/
theorem arg_shut : iprop(fam 0 16 (fun k => holds c (sendM aX c k) fullShare (sv m c k)) ∗ fam 0 16 (fun k => holds c (keepM aX c k) fullShare (kv m c k)))
    ⊢ (ArgAt c (xv m c) : sProp 𝕄) :=
  (BI.sep_mono (fam_mono fun k => holds_to (sendM aX c k) fullShare (xv m c) rfl) (fam_mono fun k => holds_to (keepM aX c k) fullShare (xv m c) rfl)).trans (arg_eq (xv m c)).2

/-- A memref held at some contents is free. -/
theorem free_of {sp : Space} {s : Shape} (M : Memref sig .tc sp s .f32) (f : Buf (Elt F) (M.view.loc (c : Thread nD τ))) :
    ((M.view.loc (c : Thread nD τ)) ↦[M.view.set]{fullShare} f : sProp 𝕄) ⊢ free c M := by
  unfold free Release.slot
  iintro H; iexists f; iexact H
/-- The result array opened into free chunks. -/
theorem res_open (f : FVec F S16384x1024 .f32) : (ResAt c f : sProp 𝕄) ⊢ iprop(fam 0 16 (fun k => free c (sendM aO c k)) ∗ fam 0 16 (fun k => free c (keepM aO c k))) :=
  (res_eq f).1.trans (BI.sep_mono (fam_mono fun k => free_of (sendM aO c k) f) (fam_mono fun k => free_of (keepM aO c k) f))
/-- The chunks filled with the reduced values are the result array at its final contents. -/
theorem res_shut : iprop(fam 0 16 (fun k => holds c (sendM aO c k) fullShare (rv m (yp c) k)) ∗ fam 0 16 (fun k => holds c (keepM aO c k) fullShare (rv m c k)))
    ⊢ (ResAt c (outF m c) : sProp 𝕄) :=
  (BI.sep_mono (fam_mono fun k => holds_to (sendM aO c k) fullShare (outF m c) (read_send k)) (fam_mono fun k => holds_to (keepM aO c k) fullShare (outF m c) (read_keep k))).trans (res_eq (outF m c)).2

/-! ## The bundles at the start -/

/-- A kind of copies at the start: none issued, none awaited. -/
theorem G_start (a : Fin 8) (h : ∀ k, tk m c a k = iprop(dutyTok ER (dcell c a k) 0 0 ∗ extra m c a k)) :
    iprop(DutK c a ∗ fam 0 16 (extra m c a) ∗ fam 0 16 (ps c a)) ⊢ G m c a 0 0 := by
  unfold G DutK
  rw [fam_nil (a := 0) (b := 0) (Nat.le_refl 0), fam_nil (a := 0) (b := 0) (Nat.le_refl 0),
    show tk m c a = (fun k => iprop(dutyTok ER (dcell c a k) 0 0 ∗ extra m c a k)) from funext h, fam_sep]
  iintro ⟨H1, H2, H3⟩
  isplitl [H1 H2]; · isplitl [H1] <;> iassumption
  isplitr; · iempintro
  isplitl [H3]; · iexact H3
  iempintro
/-- The landings at the start: all promised by the neighbour, none awaited. -/
theorem G_recv (a : Fin 8) : iprop(fam 0 16 (pend c a) ∗ fam 0 16 (ps c a)) ⊢ G m c a 16 0 := by
  unfold G
  rw [fam_nil (a := 16) (b := 16) (Nat.le_refl 16), fam_nil (a := 0) (b := 0) (Nat.le_refl 0)]
  iintro ⟨H1, H2⟩
  isplitr; · iempintro
  isplitl [H1]; · iexact H1
  isplitl [H2]; · iexact H2
  iempintro
/-- The bundles at the end. -/
theorem G_end (a : Fin 8) : G m c a 16 16 ⊢ iprop(fam 0 16 (fun k => atPos ER (dcell c a k) 1 ∅ 0) ∗ fam 0 16 (left m c a)) := by
  unfold G
  rw [show dn m c a = (fun k => iprop(atPos ER (dcell c a k) 1 ∅ 0 ∗ left m c a k)) from rfl, fam_sep]
  iintro ⟨-, -, -, H⟩
  iexact H
/-- No credit taken yet. -/
theorem taken_start (w : Bool) : atPos ER (cCell w c) 0 ∅ 0 ⊢ (taken w c 0 : sProp 𝕄) := by
  unfold taken
  rw [if_pos (by decide)]
  iintro H
  iexists ∅
  isplitr
  · ipureintro; exact ⟨Finset.empty_subset _, Nat.zero_le _⟩
  isplitl [H]; · iexact H
  rw [bigSep_empty]
  iempintro
/-- All twelve credits taken: the credit semaphore's only round is over. -/
theorem taken_end (w : Bool) : (taken w c 12 : sProp 𝕄) = atPos ER (cCell w c) 1 ∅ 0 := by
  unfold taken
  rw [if_neg (by decide)]

/-! ## The start and the end of a device -/

/-- What the copies to the x-neighbour use besides their own duty. -/
theorem extra2 (m : (ℓ : Loc nD τ sig) → Buf (Elt F) ℓ) (c : Dev nD) :
    iprop(fam 0 16 (fun k => Release.writeTok ES (key false (xp c) k) (k / 4 + 1)) ∗ DutK (xp c) 3) ⊢ (fam 0 16 (extra m c 2) : sProp 𝕄) := by
  unfold DutK
  rw [← fam_sep]
  exact fam_mono fun k => Idealize.SL.BI.Entails.refl _
/-- What the copies to the y-neighbour use besides their own duty. -/
theorem extra4 (m : (ℓ : Loc nD τ sig) → Buf (Elt F) ℓ) (c : Dev nD) :
    iprop(fam 0 16 (fun k => Release.writeTok ES (key true (yp c) k) (k / 4 + 1)) ∗ DutK (yp c) 5) ⊢ (fam 0 16 (extra m c 4) : sProp 𝕄) := by
  unfold DutK
  rw [← fam_sep]
  exact fam_mono fun k => Idealize.SL.BI.Entails.refl _

/-- What the launch deals a device is what its body starts from. -/
theorem start_dev (f : FVec F S16384x1024 .f32) :
    iprop(Lin c ∗ Creds c ∗ ArgAt c (xv m c) ∗ ResAt c f ∗ Bufs c) ⊢ Start m c := by
  unfold Lin Own Places Mv Creds Start Landing BarS GiveT Take Rdr
  rw [fin8]
  iintro ⟨⟨⟨⟨Pb, Pt, Pf, P0, P1, P2, P3, P4, P5, P6, P7⟩, ⟨Rf, Rt⟩, D0, D1, D2, D4, D6, D7⟩, ⟨Mx, Wx, Gx, Bx⟩, My, Wy, Gy, By⟩,
    ⟨C3, C5, Cf, Ct, Cb⟩, HA, HO, HB⟩
  ihave HA := arg_open $$ HA
  ihave HO := (res_open f) $$ HO
  ihave HB := bufs_open $$ HB
  icases HA with ⟨A0, A1⟩
  icases HO with ⟨O7, O6⟩
  icases HB with ⟨S0, S1, S2, S3, S4⟩
  ihave E2 := (extra2 m c) $$ [Wx Mx]
  · isplitl [Wx]
    · iexact Wx
    · iexact Mx
  ihave E4 := (extra4 m c) $$ [Wy My]
  · isplitl [Wy]
    · iexact Wy
    · iexact My
  isplitl [Rf S2]
  · isplitl [Rf]
    · iexact Rf
    · iexact S2
  isplitl [Rt S4]
  · isplitl [Rt]
    · iexact Rt
    · iexact S4
  isplitl [Bx By Cb Pb]
  · isplitl [Bx]; · iexact Bx
    isplitl [By]; · iexact By
    isplitl [Cb]; · iexact Cb
    iexact Pb
  isplitl [S0 S1 S3]
  · isplitl [S0]; · iexact S0
    isplitl [S1]; · iexact S1
    iexact S3
  isplitl [D0 A0 P0 D1 A1 P1 D2 E2 P2 C3 P3 D4 E4 P4 C5 P5 D6 O6 P6 D7 O7 P7]
  · isplitl [D0 A0 P0]
    · iapply (G_start (m := m) (c := c) 0 fun _ => rfl)
      isplitl [D0]; · iexact D0
      isplitl [A0]; · iexact A0
      iexact P0
    isplitl [D1 A1 P1]
    · iapply (G_start (m := m) (c := c) 1 fun _ => rfl)
      isplitl [D1]; · iexact D1
      isplitl [A1]; · iexact A1
      iexact P1
    isplitl [D2 E2 P2]
    · iapply (G_start (m := m) (c := c) 2 fun _ => rfl)
      isplitl [D2]; · iexact D2
      isplitl [E2]; · iexact E2
      iexact P2
    isplitl [C3 P3]
    · iapply (G_recv (m := m) (c := c) 3)
      isplitl [C3]; · iexact C3
      iexact P3
    isplitl [D4 E4 P4]
    · iapply (G_start (m := m) (c := c) 4 fun _ => rfl)
      isplitl [D4]; · iexact D4
      isplitl [E4]; · iexact E4
      iexact P4
    isplitl [C5 P5]
    · iapply (G_recv (m := m) (c := c) 5)
      isplitl [C5]; · iexact C5
      iexact P5
    isplitl [D6 O6 P6]
    · iapply (G_start (m := m) (c := c) 6 fun _ => rfl)
      isplitl [D6]; · iexact D6
      isplitl [O6]; · iexact O6
      iexact P6
    · iapply (G_start (m := m) (c := c) 7 fun _ => rfl)
      isplitl [D7]; · iexact D7
      isplitl [O7]; · iexact O7
      iexact P7
  isplitl [Cf Pf Ct Pt]
  · isplitl [Cf Pf]
    · isplitl [Cf]; · iexact Cf
      iapply (taken_start (F := F) (c := c) false); iexact Pf
    · isplitl [Ct]; · iexact Ct
      iapply (taken_start (F := F) (c := c) true); iexact Pt
  isplitl [Gx]
  · iexact Gx
  · iexact Gy

/-- All cells of a device. -/
theorem places_eq (r : ℕ) : (bigSep (Finset.univ : Finset (Fin 131)) (fun p => atPos ER (kcell (c, p)) r ∅ 0) : sProp 𝕄) = Places c r :=
  allCells_eq (F := F) (c := c) fun g => atPos ER g r ∅ 0

/-- A finished cell gives its semaphore back at zero. -/
theorem cell_shut (p : Fin 131) : iprop(Known m κ ι ∗ atPos ER (kcell (c, p)) 1 ∅ 0) ⊢ iprop(|={Set.univ}=> (semVal (kcell (c, p)) 0 : sProp 𝕄)) := by
  iintro ⟨HK, Hp⟩
  ihave Hc := (known_cell m κ ι (c, p)) $$ HK
  icases Hc with ⟨#Hc, -⟩
  iapply (Rounds.cell_close ER (Rd m) (Set.mem_univ _) (fun h => h) (R := 0 + 1) (duties_later m (kcell (c, p))))
  isplitr
  · iexact Hc
  · iexact Hp
/-- When all rounds are over, all the semaphores of a device are at zero. -/
theorem cells_shut : iprop(Known m κ ι ∗ Places c 1)
    ⊢ iprop(|={Set.univ}=> (bigSep (Finset.univ : Finset (Fin 131)) (fun p => (semVal (kcell (c, p)) 0 : sProp 𝕄)))) := by
  rw [← places_eq]
  refine ((sep_mono_left (BI.bigSep_of_persistent (Finset.univ : Finset (Fin 131)) (Known m κ ι))).trans ?_).trans (bigSep_fupd _ _)
  rw [← bigSep_sep']
  exact bigSep_mono fun p _ => cell_shut (m := m) (κ := κ) (ι := ι) (c := c) p

/-- The body's end sorted: the cells' places on the one side, the memory on the other. -/
theorem end_parts : iprop(Known m κ ι ∗ Fin' m c) ⊢ iprop((Known m κ ι ∗ Places c 1) ∗ Bufs c ∗ ArgAt c (xv m c) ∗ ResAt c (outF m c)) := by
  unfold Fin'
  rw [taken_end, taken_end]
  iintro ⟨HK, ⟨G0, G1, G2, G3, G4, G5, G6, G7⟩, HB, ⟨Pf, Pt⟩, Pb⟩
  ihave G0 := (G_end (m := m) (c := c) 0) $$ G0
  ihave G1 := (G_end (m := m) (c := c) 1) $$ G1
  ihave G2 := (G_end (m := m) (c := c) 2) $$ G2
  ihave G3 := (G_end (m := m) (c := c) 3) $$ G3
  ihave G4 := (G_end (m := m) (c := c) 4) $$ G4
  ihave G5 := (G_end (m := m) (c := c) 5) $$ G5
  ihave G6 := (G_end (m := m) (c := c) 6) $$ G6
  ihave G7 := (G_end (m := m) (c := c) 7) $$ G7
  icases G0 with ⟨P0, L0⟩
  icases G1 with ⟨P1, L1⟩
  icases G2 with ⟨P2, -⟩
  icases G3 with ⟨P3, -⟩
  icases G4 with ⟨P4, -⟩
  icases G5 with ⟨P5, -⟩
  icases G6 with ⟨P6, L6⟩
  icases G7 with ⟨P7, L7⟩
  isplitl [HK Pf Pt Pb P0 P1 P2 P3 P4 P5 P6 P7]
  · isplitl [HK]; · iexact HK
    unfold Places
    rw [fin8]
    isplitl [Pb]; · iexact Pb
    isplitl [Pt]; · iexact Pt
    isplitl [Pf]; · iexact Pf
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  isplitl [HB]; · iapply (bufs_shut (c := c) m); iexact HB
  isplitl [L0 L1]
  · iapply (arg_shut (m := m) (c := c))
    isplitl [L0]
    · iexact L0
    · iexact L1
  · iapply (res_shut (m := m) (c := c))
    isplitl [L7]
    · iexact L7
    · iexact L6

/-- What a device's body ends with: its semaphores at zero, its buffers, its argument as it was and its result. -/
theorem end_dev : iprop(Known m κ ι ∗ Fin' m c)
    ⊢ iprop(|={Set.univ}=> ((bigSep (Finset.univ : Finset (Fin 131)) (fun p => (semVal (kcell (c, p)) 0 : sProp 𝕄))) ∗ Bufs c ∗ ArgAt c (xv m c) ∗ ResAt c (outF m c))) := by
  exact (end_parts (m := m) (κ := κ) (ι := ι) (c := c)).trans ((sep_mono_left (cells_shut (m := m) (κ := κ) (ι := ι) (c := c))).trans fupd_frame_right)

end Cert.KernelIdeal
-- ==== Proof.Mint.lean ====
/-
# The ghost state at the launch

The cells, duties and slots are allocated once and dealt to the devices.
-/
module

public import proofs.«01_k».proof.Proof.Border

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {m : (ℓ : Loc nD τ sig) → Buf (Elt F) ℓ} {c : Dev nD}

/-! ## What is minted -/

/-- All cells. -/
def cellSet : Finset (GSem nD τ sig) := Finset.univ.map ⟨kcell, kcell_injective⟩

/-- The duties of one device: the copies', the credits', the barrier's. -/
abbrev TokIx : Type := (Fin 8 × Fin 16) ⊕ (Bool × Fin 12) ⊕ Fin 2
/-- A duty's semaphore and its name. -/
def tokSem : TokIx → SemLoc sig × ℕ
  | .inl (a, k) => (.dma (dq a k.val), 0)
  | .inr (.inl (w, j)) => (.reg (cS w), j.val)
  | .inr (.inr i) => (.reg barS, i.val)
def tokOf (p : Dev nD × TokIx) : GSem nD τ sig × ℕ × ℕ := (((p.1 : Thread nD τ), (tokSem p.2).1), 0, (tokSem p.2).2)

/-- Different duties of a device have different semaphores or names. -/
theorem tokSem_injective : Function.Injective tokSem := by
  have hc : ∀ w w' : Bool, cS w = cS w' → w = w' := by decide
  have hb : ∀ w : Bool, cS w ≠ barS := by decide
  intro i i' h
  have h2 : (tokSem i).2 = (tokSem i').2 := congrArg Prod.snd h
  have h1 : (tokSem i).1 = (tokSem i').1 := congrArg Prod.fst h
  clear h
  rcases i with ⟨a, k⟩ | ⟨w, j⟩ | i <;> rcases i' with ⟨a', k'⟩ | ⟨w', j'⟩ | i'
  · have h3 : 16 * a.val + k.val % 16 = 16 * a'.val + k'.val % 16 := congrArg (fun x : Fin 128 => x.val) (SemLoc.dma.inj h1)
    have ha : a = a' := Fin.ext (by omega)
    have hk : k = k' := Fin.ext (by omega)
    rw [ha, hk]
  · cases h1
  · cases h1
  · cases h1
  · have hw : w = w' := hc w w' (SemLoc.reg.inj h1)
    have hj : j = j' := Fin.ext h2
    rw [hw, hj]
  · exact absurd (SemLoc.reg.inj h1) (hb w)
  · cases h1
  · exact absurd (SemLoc.reg.inj h1).symm (hb w')
  · have hi : i = i' := Fin.ext h2
    rw [hi]
/-- The same over all devices. -/
theorem tokOf_injective : Function.Injective tokOf := by
  rintro ⟨c, i⟩ ⟨c', i'⟩ h
  have h1 : c = c' := congrArg (fun x : GSem nD τ sig × ℕ × ℕ => x.1.1.1) h
  have h2 : tokSem i = tokSem i' :=
    Prod.ext (congrArg (fun x : GSem nD τ sig × ℕ × ℕ => x.1.2) h) (congrArg (fun x : GSem nD τ sig × ℕ × ℕ => x.2.2) h)
  rw [h1, tokSem_injective h2]
/-- All duties. -/
def tokSet : Finset (GSem nD τ sig × ℕ × ℕ) := Finset.univ.map ⟨tokOf, tokOf_injective⟩

/-- The cells' and the slots' ghost state before anything is allocated. -/
def Seeds : sProp 𝕄 := iprop(BI.own (ER (launchOf cellSet ∅ tokSet)) ∗ BI.own (ES (Release.initSlots (Finset.univ : Finset Key) 4)))

/-- The duties of a device's own cells. -/
def Duts (c : Dev nD) : sProp 𝕄 :=
  iprop((bigSep (Finset.univ : Finset (Fin 8)) fun a => DutK c a)
    ∗ (fam 0 12 (fun j => dutyTok ER (cCell false c) 0 j) ∗ fam 0 12 (fun j => dutyTok ER (cCell true c) 0 j))
    ∗ dutyTok ER (barCell c) 0 0 ∗ dutyTok ER (barCell c) 0 1)
/-- The rights to write a device's landing slots. -/
def Wr (w : Bool) (c : Dev nD) : sProp 𝕄 := fam 0 16 (fun k => Release.writeTok ES (key w c k) (k / 4 + 1))
/-- All that is minted for a device. -/
def Pool (c : Dev nD) : sProp 𝕄 := iprop(Places c 0 ∗ Duts c ∗ (Rdr false c ∗ Rdr true c) ∗ (Wr false c ∗ Wr true c))

/-- A family over two, written out. -/
theorem fin2 (Φ : Fin 2 → sProp 𝕄) : bigSep Finset.univ Φ = iprop(Φ 0 ∗ Φ 1) := bigSep_univ_eq_bigSepL [0, 1] (by decide) (by decide) Φ
/-- A family over the two directions, written out. -/
theorem bools (Φ : Bool → sProp 𝕄) : bigSep Finset.univ Φ = iprop(Φ false ∗ Φ true) := bigSep_univ_eq_bigSepL [false, true] (by decide) (by decide) Φ

/-! ## Sorted by device -/

/-- A family over all semaphores is one over devices and their 131. -/
theorem cells_by_dev (Φ : GSem nD τ sig → sProp 𝕄) :
    bigSep cellSet Φ = bigSep (Finset.univ : Finset (Dev nD)) (fun c => bigSep (Finset.univ : Finset (Fin 131)) fun p => Φ (kcell (c, p))) := by
  unfold cellSet
  rw [bigSep_map, bigSep_univ_prod]
  rfl
/-- The waiters' places, device by device. -/
theorem places_by_dev : (bigSep cellSet (fun g => atPos ER g 0 ∅ 0) : sProp 𝕄) = bigSep (Finset.univ : Finset (Dev nD)) (fun c => Places c 0) := by
  rw [cells_by_dev]
  exact bigSep_congr fun c _ => places_eq 0
/-- The duties on one device's semaphores, kind by kind. -/
theorem duts_eq : (bigSep (Finset.univ : Finset TokIx) (fun i => dutyTok ER (tokOf (c, i)).1 (tokOf (c, i)).2.1 (tokOf (c, i)).2.2) : sProp 𝕄) = Duts c := by
  rw [bigSep_univ_sum, bigSep_univ_sum, bigSep_univ_prod, bigSep_univ_prod, bools, fin2]
  unfold Duts DutK
  rw [← fam_fin 12, ← fam_fin 12]
  have h : (bigSep (Finset.univ : Finset (Fin 8)) fun a => fam 0 16 (fun k => (dutyTok ER (dcell c a k) 0 0 : sProp 𝕄)))
      = bigSep (Finset.univ : Finset (Fin 8)) fun a => bigSep (Finset.univ : Finset (Fin 16)) fun k => dutyTok ER (dcell c a k.val) 0 0 :=
    bigSep_congr fun a _ => (fam_fin 16 _).symm
  rw [h]
  rfl
/-- All duties, device by device. -/
theorem toks_by_dev : (bigSep tokSet (fun x => dutyTok ER x.1 x.2.1 x.2.2) : sProp 𝕄) = bigSep (Finset.univ : Finset (Dev nD)) Duts := by
  unfold tokSet
  rw [bigSep_map, bigSep_univ_prod]
  exact bigSep_congr fun c _ => duts_eq

/-- One device's four slots in a direction, seen by their reader. -/
theorem rdr_eq (w : Bool) : (bigSep (Finset.univ : Finset (Fin 4)) (fun s => Release.readerAt ES ((w, c, s) : Key) 0) : sProp 𝕄) = Rdr w c := by
  unfold Rdr
  rw [← fam_fin 4]
  exact bigSep_congr fun s _ => by
    have e : key w c s.val = (w, c, s) := by
      unfold key; exact congrArg (fun x => (w, c, x)) (Fin.ext (Nat.mod_eq_of_lt s.isLt))
    rw [e]
/-- The readers of all slots, direction by direction and device by device. -/
theorem readers_by_dev : (bigSep (Finset.univ : Finset Key) (fun k => Release.readerAt ES k 0) : sProp 𝕄)
    = iprop(bigSep (Finset.univ : Finset (Dev nD)) (Rdr false) ∗ bigSep (Finset.univ : Finset (Dev nD)) (Rdr true)) := by
  rw [bigSep_univ_prod, bools, bigSep_univ_prod, bigSep_univ_prod]
  simp only [rdr_eq]

/-- The slot and the round of a chunk. -/
def wrAt (p : Bool × Dev nD × Fin 16) : Key × ℕ := (key p.1 p.2.1 p.2.2.val, p.2.2.val / 4)
/-- Different chunks are different writes of a slot. -/
theorem wrAt_injective : Function.Injective wrAt := by
  rintro ⟨w, d, k⟩ ⟨w', d', k'⟩ h
  have h1 : w = w' := congrArg (fun x : Key × ℕ => x.1.1) h
  have h2 : d = d' := congrArg (fun x : Key × ℕ => x.1.2.1) h
  have h3 : k.val % 4 = k'.val % 4 := congrArg (fun x : Key × ℕ => x.1.2.2.val) h
  have h4 : k.val / 4 = k'.val / 4 := congrArg (fun x : Key × ℕ => x.2) h
  have h5 : k = k' := Fin.ext (by omega)
  rw [h1, h2, h5]
/-- Four writes of each slot are the sixteen chunks of each device and direction. -/
theorem wr_all : ((Finset.univ : Finset Key) ×ˢ Finset.range 4) = (Finset.univ : Finset (Bool × Dev nD × Fin 16)).map ⟨wrAt, wrAt_injective⟩ := by
  ext ⟨⟨w, d, s⟩, r⟩
  rw [Finset.mem_product, Finset.mem_range, Finset.mem_map]
  constructor
  · rintro ⟨-, hr⟩
    have hr' : r < 4 := hr
    refine ⟨(w, d, ⟨4 * r + s.val, by omega⟩), Finset.mem_univ _, ?_⟩
    refine Prod.ext (Prod.ext rfl (Prod.ext rfl (Fin.ext ?_))) ?_
    · show (4 * r + s.val) % 4 = s.val
      omega
    · show (4 * r + s.val) / 4 = r
      omega
  · rintro ⟨⟨w', d', k⟩, -, h⟩
    refine ⟨Finset.mem_univ _, ?_⟩
    have h4 : k.val / 4 = r := congrArg (fun x : Key × ℕ => x.2) h
    show r < 4
    omega
/-- The rights to write, direction by direction and device by device. -/
theorem writes_by_dev : (bigSep ((Finset.univ : Finset Key) ×ˢ Finset.range 4) (fun x => Release.writeTok ES x.1 (x.2 + 1)) : sProp 𝕄)
    = iprop(bigSep (Finset.univ : Finset (Dev nD)) (Wr false) ∗ bigSep (Finset.univ : Finset (Dev nD)) (Wr true)) := by
  rw [wr_all, bigSep_map, bigSep_univ_prod, bools, bigSep_univ_prod, bigSep_univ_prod]
  have h (w : Bool) : (bigSep (Finset.univ : Finset (Dev nD)) (Wr w) : sProp 𝕄)
      = bigSep (Finset.univ : Finset (Dev nD)) fun d => bigSep (Finset.univ : Finset (Fin 16)) fun k => Release.writeTok ES (key w d k.val) (k.val / 4 + 1) :=
    bigSep_congr fun d _ => (fam_fin 16 _).symm
  rw [h, h]
  rfl

/-! ## Dealt out -/

/-- What is minted for a device splits into what it keeps and what its two neighbours get. -/
theorem pool_split : (Pool c : sProp 𝕄) ⊢ iprop(Own c ∗ Mv false c ∗ Mv true c) := by
  unfold Pool Duts Own Mv Wr
  rw [fin8]
  iintro ⟨HP, ⟨⟨D0, D1, D2, D3, D4, D5, D6, D7⟩, ⟨Gf, Gt⟩, B0, B1⟩, HR, Wf, Wt⟩
  isplitl [HP HR D0 D1 D2 D4 D6 D7]
  · isplitl [HP]; · iexact HP
    isplitl [HR]; · iexact HR
    isplitl [D0]; · iexact D0
    isplitl [D1]; · iexact D1
    isplitl [D2]; · iexact D2
    isplitl [D4]; · iexact D4
    isplitl [D6]; · iexact D6
    iexact D7
  isplitl [D3 Wf Gf B0]
  · isplitl [D3]; · iexact D3
    isplitl [Wf]; · iexact Wf
    isplitl [Gf]; · iexact Gf
    iexact B0
  · isplitl [D5]; · iexact D5
    isplitl [Wt]; · iexact Wt
    isplitl [Gt]; · iexact Gt
    iexact B1

def xpE : Dev nD ≃ Dev nD := ⟨xp, xp, xp_xp, xp_xp⟩
def ypE : Dev nD ≃ Dev nD := ⟨yp, yp, yp_yp, yp_yp⟩

/-- Every device passes to its neighbours what they use. -/
theorem deal : (bigSep (Finset.univ : Finset (Dev nD)) Pool : sProp 𝕄) ⊢ bigSep (Finset.univ : Finset (Dev nD)) Lin := by
  have h : (bigSep (Finset.univ : Finset (Dev nD)) Lin : sProp 𝕄) = bigSep (Finset.univ : Finset (Dev nD)) (fun c => iprop(Own c ∗ Mv false c ∗ Mv true c)) := by
    have hx := bigSep_univ_equiv xpE (fun c : Dev nD => (Mv false c : sProp 𝕄))
    have hy := bigSep_univ_equiv ypE (fun c : Dev nD => (Mv true c : sProp 𝕄))
    rw [bigSep_sep', bigSep_sep', hx, hy, ← bigSep_sep', ← bigSep_sep']
    rfl
  rw [h]
  exact bigSep_mono fun c _ => pool_split

/-! ## Allocated -/

/-- What all devices know but for the levels. -/
def Shared (m : (ℓ : Loc nD τ sig) → Buf (Elt F) ℓ) (κ : GSem nD τ sig → ℕ) (ι : Key → ℕ) : sProp 𝕄 :=
  iprop(bigSep (Finset.univ : Finset (Dev nD × Fin 131)) (fun p => iprop(cellInv ER (Rd m) (κ (kcell p)) (kcell p) ∗ reached ER (kcell p) 0))
    ∗ bigSep (Finset.univ : Finset Key) (fun k => Release.slotInv ES (ι k) k (slotOf k)))
instance Shared_persistent (κ : GSem nD τ sig → ℕ) (ι : Key → ℕ) : BI.Persistent (Shared m κ ι) := by unfold Shared; infer_instance

/-- What a device is dealt. -/
def Dealt (m : (ℓ : Loc nD τ sig) → Buf (Elt F) ℓ) (c : Dev nD) : sProp 𝕄 := iprop(∃ (κ : GSem nD τ sig → ℕ) (ι : Key → ℕ), Shared m κ ι ∗ Lin c)

/-- All that is dealt once, gathered device by device. -/
theorem pools : iprop(bigSep (Finset.univ : Finset (Dev nD)) (fun c => Places c 0) ∗ bigSep (Finset.univ : Finset (Dev nD)) Duts
    ∗ (bigSep (Finset.univ : Finset (Dev nD)) (Rdr false) ∗ bigSep (Finset.univ : Finset (Dev nD)) (Rdr true))
    ∗ (bigSep (Finset.univ : Finset (Dev nD)) (Wr false) ∗ bigSep (Finset.univ : Finset (Dev nD)) (Wr true)))
    ⊢ (bigSep (Finset.univ : Finset (Dev nD)) Lin : sProp 𝕄) := by
  rw [← bigSep_sep', ← bigSep_sep', ← bigSep_sep', ← bigSep_sep', ← bigSep_sep']
  exact deal
/-- The semaphores' invariants, over devices and numbers. -/
theorem cellInvs_by (κ : GSem nD τ sig → ℕ) : (bigSep cellSet (fun g => cellInv ER (Rd m) (κ g) g) : sProp 𝕄)
    = bigSep (Finset.univ : Finset (Dev nD × Fin 131)) (fun p => cellInv ER (Rd m) (κ (kcell p)) (kcell p)) := by
  unfold cellSet; rw [bigSep_map]; rfl
/-- Their first rounds, over devices and numbers. -/
theorem reached_by : (bigSep cellSet (fun g => reached ER g 0) : sProp 𝕄) = bigSep (Finset.univ : Finset (Dev nD × Fin 131)) (fun p => reached ER (kcell p) 0) := by
  unfold cellSet; rw [bigSep_map]; rfl
/-- The invariants together are what everybody knows. -/
theorem shared_intro (κ : GSem nD τ sig → ℕ) (ι : Key → ℕ) :
    iprop((bigSep cellSet (fun g => cellInv ER (Rd m) (κ g) g) ∗ bigSep cellSet (fun g => reached ER g 0))
      ∗ bigSep (Finset.univ : Finset Key) (fun k => Release.slotInv ES (ι k) k (slotOf k))) ⊢ Shared m κ ι := by
  unfold Shared
  rw [cellInvs_by, reached_by, ← bigSep_sep']
/-- What everybody knows goes to each device beside its own part. -/
theorem spread (κ : GSem nD τ sig → ℕ) (ι : Key → ℕ) :
    iprop(Shared m κ ι ∗ bigSep (Finset.univ : Finset (Dev nD)) Lin) ⊢ bigSep (Finset.univ : Finset (Dev nD)) (Dealt m) := by
  refine (sep_mono_left (BI.bigSep_of_persistent (Finset.univ : Finset (Dev nD)) (Shared m κ ι))).trans ?_
  rw [← bigSep_sep']
  refine bigSep_mono fun c _ => ?_
  show iprop(Shared m κ ι ∗ Lin c) ⊢ Dealt m c
  unfold Dealt
  iintro H
  iexists κ
  iexists ι
  iexact H

/-- The cells' part of the allocation. -/
theorem mint_cells : iprop(bigSep cellSet (fun g => (semVal g 0 : sProp 𝕄)) ∗ BI.own (ER (launchOf cellSet ∅ tokSet)))
    ⊢ iprop(|={Set.univ}=> ∃ κ : GSem nD τ sig → ℕ, (bigSep cellSet (fun g => cellInv ER (Rd m) (κ g) g) ∗ bigSep cellSet (fun g => reached ER g 0))
        ∗ bigSep (Finset.univ : Finset (Dev nD)) (fun c => Places c 0) ∗ bigSep (Finset.univ : Finset (Dev nD)) Duts) := by
  have h := Rounds.fund_launch (Es := Set.univ) ER (Rd m) (Finset.disjoint_empty_right cellSet) (fun g hg => absurd hg (Finset.notMem_empty g)) tokSet
  rw [Finset.union_empty, places_by_dev, toks_by_dev] at h
  refine h.trans (fupd_mono ?_)
  iintro ⟨%κ, -, HI, Hr, Hat, -, Htok⟩
  iexists κ
  isplitl [HI Hr]
  · isplitl [HI]
    · iexact HI
    · iexact Hr
  isplitl [Hat]
  · iexact Hat
  · iexact Htok
/-- The slots' part. -/
theorem mint_slots : (BI.own (ES (Release.initSlots (Finset.univ : Finset Key) 4)) : sProp 𝕄)
    ⊢ iprop(|={Set.univ}=> ∃ ι : Key → ℕ, bigSep (Finset.univ : Finset Key) (fun k => Release.slotInv ES (ι k) k (slotOf k))
        ∗ (bigSep (Finset.univ : Finset (Dev nD)) (Rdr false) ∗ bigSep (Finset.univ : Finset (Dev nD)) (Rdr true))
        ∗ (bigSep (Finset.univ : Finset (Dev nD)) (Wr false) ∗ bigSep (Finset.univ : Finset (Dev nD)) (Wr true))) := by
  have h := Release.slots_init (Es := Set.univ) ES (Finset.univ : Finset Key) 4 (fun k => (slotOf k : sProp 𝕄))
  rw [readers_by_dev, writes_by_dev] at h
  refine h.trans (fupd_mono ?_)
  iintro ⟨%ι, -, HS, HR, HW⟩
  iexists ι
  isplitl [HS]; · iexact HS
  isplitl [HR]
  · iexact HR
  · iexact HW

/-- From all semaphores at zero and the seeds, every device's start. -/
theorem mint : iprop(bigSep cellSet (fun g => (semVal g 0 : sProp 𝕄)) ∗ Seeds) ⊢ iprop(|={Set.univ}=> (bigSep (Finset.univ : Finset (Dev nD)) (Dealt m))) := by
  unfold Seeds
  iintro ⟨HV, HR, HS⟩
  imod (mint_cells (m := m)) $$ [HV HR] with ⟨%κ, HI, Hat, Htok⟩
  · isplitl [HV]
    · iexact HV
    · iexact HR
  imod (mint_slots (F := F)) $$ HS with ⟨%ι, HSl, Hrd, Hwr⟩
  imodintro
  iapply (spread (m := m) κ ι)
  isplitl [HI HSl]
  · iapply (shared_intro (m := m) κ ι)
    isplitl [HI]
    · iexact HI
    · iexact HSl
  · iapply (pools (F := F))
    isplitl [Hat]; · iexact Hat
    isplitl [Htok]; · iexact Htok
    isplitl [Hrd]
    · iexact Hrd
    · iexact Hwr

end Cert.KernelIdeal
-- ==== Proof.Dues.lean ====
/-
# The credits at the launch

What the neighbours owe a device, told as the credits it holds.
-/
module

public import proofs.«01_k».proof.Proof.Border

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable {c : Dev nD}

/-- The neighbours owe a family of units, one per index: the device holds the matching credits. -/
theorem dues_fam {a b : ℕ} (sm : ℕ → SemLoc sig) (ix : ℕ → ℕ) (n : ℕ) (f : Dev nD → Dev nD) (hf : ∀ d, f (f d) = d) :
    (Pipeline.launchCred (fun d => ∑ j ∈ Finset.Ico a b, tallyAt (((f d : Dev nD) : Thread nD τ), sm j) (ix j) n) c : sProp 𝕄)
      ⊢ fam a b (fun j => cred (tallyAt ((c : Thread nD τ), sm j) (ix j) n)) := by
  rw [Pipeline.launchCred_sum]
  unfold fam
  exact bigSep_mono fun j _ => Pipeline.launchCred_tallyAt (sm j) f f hf hf (ix j) n c

/-- What the neighbours owe at the start is worth these credits. -/
theorem creds_dev : (Pipeline.launchCred Odebt0 c : sProp 𝕄) ⊢ Creds c := by
  have e : (Pipeline.launchCred Odebt0 c : sProp 𝕄)
      = iprop(((((Pipeline.launchCred (fun d => ∑ j ∈ Finset.Ico 0 16, tallyAt (((xp d : Dev nD) : Thread nD τ), .dma (dq 3 j)) 0 N) c
          ∗ Pipeline.launchCred (fun d => ∑ j ∈ Finset.Ico 0 16, tallyAt (((yp d : Dev nD) : Thread nD τ), .dma (dq 5 j)) 0 N) c)
          ∗ Pipeline.launchCred (fun d => ∑ j ∈ Finset.Ico 0 12, tallyAt (((xp d : Dev nD) : Thread nD τ), .reg cxS) j 1) c)
          ∗ Pipeline.launchCred (fun d => ∑ j ∈ Finset.Ico 0 12, tallyAt (((yp d : Dev nD) : Thread nD τ), .reg cyS) j 1) c)
          ∗ Pipeline.launchCred (fun d => tallyAt (((yp d : Dev nD) : Thread nD τ), .reg barS) 0 1) c)
          ∗ Pipeline.launchCred (fun d => tallyAt (((xp d : Dev nD) : Thread nD τ), .reg barS) 0 1) c) := by
    rw [← Pipeline.launchCred_add, ← Pipeline.launchCred_add, ← Pipeline.launchCred_add, ← Pipeline.launchCred_add, ← Pipeline.launchCred_add]
    rfl
  rw [e]
  unfold Creds
  iintro ⟨⟨⟨⟨⟨H3, H5⟩, Hx⟩, Hy⟩, By⟩, Bx⟩
  isplitl [H3]; · iapply (dues_fam (F := F) (fun j => .dma (dq 3 j)) (fun _ => 0) N xp xp_xp); iexact H3
  isplitl [H5]; · iapply (dues_fam (F := F) (fun j => .dma (dq 5 j)) (fun _ => 0) N yp yp_yp); iexact H5
  isplitl [Hx]; · iapply (dues_fam (F := F) (fun _ => .reg cxS) (fun j => j) 1 xp xp_xp); iexact Hx
  isplitl [Hy]; · iapply (dues_fam (F := F) (fun _ => .reg cyS) (fun j => j) 1 yp yp_yp); iexact Hy
  have h2 : (cred (tallyAt (barCell c) 0 2) : sProp 𝕄) = iprop(cred (tallyAt (barCell c) 0 1) ∗ cred (tallyAt (barCell c) 0 1)) := by
    rw [show (2 : ℕ) = 1 + 1 from rfl, ← tallyAt_add]
    exact BI.Entails.antisymm (cred_add _ _).1 (cred_add _ _).2
  rw [h2]
  isplitl [By]
  · iapply (Pipeline.launchCred_tallyAt (.reg barS) yp yp yp_yp yp_yp 0 1 c); iexact By
  · iapply (Pipeline.launchCred_tallyAt (.reg barS) xp xp xp_xp xp_xp 0 1 c); iexact Bx

end Cert.KernelIdeal
-- ==== Proof.Launch.lean ====
/-
# The launch

From any memory with all semaphores at zero, the kernel runs to its end.
-/
module

public import proofs.«01_k».proof.Proof.Mint
public import proofs.«01_k».proof.Proof.Dues
public import Idealize.ShloMosaic.Lib.Pipeline.CollectiveSegs

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable (m : (ℓ : Loc nD τ sig) → Buf (Elt F) ℓ) (ρ : Dev nD → PrngReg)

/-! ## The region -/

/-- Before the body: all that is known, and the device's own start. -/
def Before (c : Dev nD) : sProp 𝕄 := iprop(∃ (κ : GSem nD τ sig → ℕ) (ι : Key → ℕ), Known m κ ι ∗ Start m c)
/-- After it: semaphores at zero, the buffers, the argument unchanged and the result. -/
def After (c : Dev nD) : sProp 𝕄 :=
  iprop((bigSep (Finset.univ : Finset (Fin 131)) (fun p => (semVal (kcell (c, p)) 0 : sProp 𝕄))) ∗ Bufs c ∗ ArgAt c (xv m c) ∗ ResAt c (outF m c))

def dats (_ : Fin 1) (c : Dev nD) : Pipeline.Dat τ (Elt F) ℕ ℕ UU ℕ cfg0 c where
  A w := w.elim0
  after w _ := w.elim0
  Φ t := match t with
    | ⟨0, _⟩ => Before m c
    | ⟨_ + 1, _⟩ => After m c
  q _ := fullShare
  owed t := match t with
    | ⟨0, _⟩ => Odebt0 c
    | ⟨_ + 1, _⟩ => 0

/-- The call has no windows, so a family over them is empty. -/
theorem no_windows (Φ : Fin cfg0.W → sProp 𝕄) : bigSep Finset.univ Φ = iprop(emp) := by
  have h : (Finset.univ : Finset (Fin cfg0.W)) = ∅ := rfl
  rw [h, bigSep_empty]
  rfl

/-- The table's row at the point is the body. -/
theorem row_eq (t : Fin cfg0.N) : defs₀ (F := F) .tc cfg0.body (cfg0.bodyArgs t (cfg0.slots t)) = myBody := by
  rw [← body_eq t]
  unfold defs₀; rw [Defs.onTc_tc]

attribute [local irreducible] bodyOf in
/-- The body asks first which device it runs on. -/
theorem body_at (c : Dev nD) (Φ : PUnit → sProp 𝕄) :
    wp frame (wpE (defs₀ (F := F)) 𝒱₀ (c : Thread nD τ) none) Set.univ (bodyOf (F := F) c) Φ
      ⊢ wp frame (wpE (defs₀ (F := F)) 𝒱₀ (c : Thread nD τ) none) Set.univ (myBody (F := F)) Φ := by
  unfold myBody
  rw [Prog.bind_lift, wp_deviceId]

/-- The body, from before to after. -/
theorem body_run (c : Dev nD) : iprop(Before m c ∗ owesE c (Odebt0 c))
    ⊢ wp frame (wpE (defs₀ (F := F)) 𝒱₀ (c : Thread nD τ) none) Set.univ (myBody (F := F)) (fun _ => iprop(After m c ∗ owesE c 0)) := by
  unfold Before
  iintro ⟨⟨%κ, %ι, #HK, HS⟩, HO⟩
  iapply (body_at c _)
  iapply (Idealize.SL.Sem.wp_fupd _ _ _ (bodyOf (F := F) c) (fun _ => iprop(After m c ∗ owesE c 0)))
  iapply (tr_body (m := m) (κ := κ) (ι := ι) (c := c) (fun _ => iprop(|={Set.univ}=> (After m c ∗ owesE c 0))))
  isplitr; · iexact HK
  isplitl [HO HS]
  · isplitl [HO]
    · iexact HO
    · iexact HS
  iintro ⟨HO, HF⟩
  imod (show iprop(Known m κ ι ∗ Fin' m c) ⊢ iprop(|={Set.univ}=> After m c) from end_dev (m := m) (κ := κ) (ι := ι) (c := c)) $$ [HF] with HE
  · isplitr
    · iexact HK
    · iexact HF
  imodintro
  isplitl [HE]
  · iexact HE
  · iexact HO

/-- The body, with what the device owes put as the pipeline puts it. -/
theorem body_owes (c : Dev nD) : iprop(Before m c ∗ (dats (F := F) m 0 c).owesAt 0 t0_0.castSucc ∗ emp)
    ⊢ wp frame (wpE (defs₀ (F := F)) 𝒱₀ (c : Thread nD τ) none) Set.univ (myBody (F := F))
      (fun _ => iprop(After m c ∗ (dats (F := F) m 0 c).owesAt 0 t0_0.succ ∗ emp)) := by
  have hpre : iprop(Before m c ∗ (dats (F := F) m 0 c).owesAt 0 t0_0.castSucc ∗ emp) ⊢ iprop(Before m c ∗ owesE c (Odebt0 c)) := by
    iintro ⟨HB, HO, -⟩
    isplitl [HB]; · iexact HB
    icases HO with ⟨%W, %hW, HO⟩
    unfold owesE
    iexists W
    iexact HO
  have hpost : iprop(After m c ∗ owesE c 0) ⊢ iprop(After m c ∗ (dats (F := F) m 0 c).owesAt 0 t0_0.succ ∗ emp) := by
    unfold owesE
    iintro ⟨HA, %W, HO⟩
    isplitl [HA]; · iexact HA
    isplitl [HO]
    · iexists W
      isplitr
      · ipureintro; exact fun _ _ => Or.inl trivial
      · iexact HO
    · iempintro
  exact (hpre.trans (body_run m c)).trans (Idealize.SL.Sem.wp_mono _ _ _ fun _ => hpost)

attribute [local irreducible] myBody in
/-- The pipeline's obligation: one point, no windows. -/
theorem body_obligation (c : Dev nD) : Pipeline.BodyObligation (dats (F := F) m 0 c) (defs₀ (F := F)) 𝒱₀ 0 Set.univ := fun t => by
  rw [row_eq, fin_N0 t]
  rw [no_windows, no_windows]
  exact body_owes m c

/-! ## The launch's ghost state -/

/-- One device is dealt all the seeds. -/
def Gseed (c : Dev nD) : sProp 𝕄 := if c = 0 then Seeds else iprop(emp)
/-- The seeds, dealt to one device. -/
theorem seeds_deal : (Seeds : sProp 𝕄) ⊢ bigSep (Finset.univ : Finset (Dev nD)) Gseed := by
  have h0 : (Gseed 0 : sProp 𝕄) = Seeds := if_pos rfl
  have h1 : bigSep (Finset.univ.erase (0 : Dev nD)) (Gseed : Dev nD → sProp 𝕄) = bigSep (Finset.univ.erase (0 : Dev nD)) (fun _ => iprop(emp)) :=
    bigSep_congr fun c hc => if_neg (Finset.ne_of_mem_erase hc)
  refine BIBase.Entails.trans ?_ (Entails.of_eq (bigSep_univ_split (0 : Dev nD)).symm)
  rw [h0, h1]
  show Seeds ⊢ iprop(Seeds ∗ bigSep (Finset.univ.erase (0 : Dev nD)) (fun _ => iprop(emp)))
  iintro H
  isplitl [H]; · iexact H
  iapply (bigSep_of_persistent (Finset.univ.erase (0 : Dev nD)) (iprop(emp) : sProp 𝕄))
  iempintro
/-- And taken back from it. -/
theorem seeds_back : bigSep (Finset.univ : Finset (Dev nD)) Gseed ⊢ (Seeds : sProp 𝕄) := by
  have h0 : (Gseed 0 : sProp 𝕄) = Seeds := if_pos rfl
  exact (bigSep_elim (Finset.mem_univ (0 : Dev nD))).trans (Entails.of_eq h0)

/-- The resources at the launch. -/
def u₀ : UU := (Rounds.initOf (Pipeline.cells cfgs cellOf_inj) (Pipeline.launchToks cfgs cellOf_inj),
  (launchOf cellSet ∅ tokSet, Release.initSlots (Finset.univ : Finset Key) 4))

/-- The resources at the launch are the windows', which are not used, and the seeds. -/
theorem resources : (ownU u₀ : sProp 𝕄)
    ⊢ iprop(|={Set.univ}=> (BI.own (EP (Rounds.initOf (Pipeline.cells cfgs cellOf_inj) (Pipeline.launchToks cfgs cellOf_inj)))
        ∗ bigSep (Finset.univ : Finset (Dev nD)) Gseed)) := by
  refine BIBase.Entails.trans ?_ (fupd_intro (E := Set.univ))
  have h1 : (ownU u₀ : sProp 𝕄) ⊢ iprop(BI.own (EP (Rounds.initOf (Pipeline.cells cfgs cellOf_inj) (Pipeline.launchToks cfgs cellOf_inj)))
      ∗ BI.own (EBS (launchOf cellSet ∅ tokSet, Release.initSlots (Finset.univ : Finset Key) 4))) := ownU_pair _ _
  have h2 : (BI.own (EBS (launchOf cellSet ∅ tokSet, Release.initSlots (Finset.univ : Finset Key) 4)) : sProp 𝕄) ⊢ Seeds := own_pair_emb EBS _ _
  exact h1.trans (sep_mono_right (h2.trans seeds_deal))

/-- All devices' semaphores at zero and the seeds make what each device is dealt. -/
theorem deal_all : (bigSep (Finset.univ : Finset (Dev nD)) fun c => iprop(Pipeline.ownSems0 (Ix := ℕ) (Name := ℕ) (U := UU) (Lvl := ℕ) (Val := Elt F) (τ := τ) osem c
      ∗ unscopedSems0 c ∗ Gseed c) : sProp 𝕄)
    ⊢ iprop(|={Set.univ}=> (bigSep (Finset.univ : Finset (Dev nD)) (Dealt m))) := by
  have h1 : ∀ c : Dev nD, iprop(Pipeline.ownSems0 (Ix := ℕ) (Name := ℕ) (U := UU) (Lvl := ℕ) (Val := Elt F) (τ := τ) osem c ∗ unscopedSems0 c ∗ Gseed c)
      ⊢ iprop((bigSep (Finset.univ : Finset (Fin 131)) fun p => (semVal (kcell (c, p)) 0 : sProp 𝕄)) ∗ Gseed c) := fun c => by
    rw [← sems_eq]
    iintro ⟨H1, H2, H3⟩
    isplitl [H1 H2]
    · isplitl [H1]
      · iexact H1
      · iexact H2
    · iexact H3
  refine (bigSep_mono fun c _ => h1 c).trans ?_
  rw [bigSep_sep', ← cells_by_dev (fun g => (semVal g 0 : sProp 𝕄))]
  exact (sep_mono_right seeds_back).trans mint

/-- What a device takes into the region. -/
def Enter (c : Dev nD) : sProp 𝕄 :=
  iprop(∃ (κ : GSem nD τ sig → ℕ) (ι : Key → ℕ), Known m κ ι ∗ Lin c ∗ Creds c ∗ ArgAt c (xv m c) ∗ ResAt c (m ((c : Thread nD τ).loc main_v1)))
/-- What it takes out. -/
def Leave (c : Dev nD) : sProp 𝕄 := iprop(unscopedSems0 c ∗ ArgAt c (xv m c) ∗ ResAt c (outF m c))

/-- What the launch gives a device is what it takes into the region. -/
theorem enter_intro (c : Dev nD) : iprop(Pipeline.unscopedRestP Pipeline.Prefetch.none (cfg0.spec) c (fun b => m ((c : Thread nD τ).loc b)) ∗ levAts L lv
      ∗ Pipeline.launchCred Odebt0 c ∗ prngReg c (ρ c) ∗ Dealt m c) ⊢ iprop(|={Set.univ}=> (Enter m c ∗ emp)) := by
  refine BIBase.Entails.trans ?_ (fupd_intro (E := Set.univ))
  rw [Pipeline.unscopedRestP_none, unscopedRest0_eq]
  refine (sep_mono_right (sep_mono_right (sep_mono_left creds_dev))).trans ?_
  unfold Enter Dealt Shared Known Lev ArgAt ResAt xv
  iintro ⟨⟨HA, HR⟩, #HL, HC, -, ⟨%κ, %ι, ⟨#HI, #HS⟩, HN⟩⟩
  isplitl
  · iexists κ; iexists ι
    isplitr
    · isplitr
      · iexact HL
      isplitr
      · iexact HI
      · iexact HS
    isplitl [HN]; · iexact HN
    isplitl [HC]; · iexact HC
    isplitl [HA]
    · iexact HA
    · iexact HR
  · iempintro

/-- With the scratch buffers that is what the body starts from. -/
theorem before_intro (c : Dev nD) : iprop(Enter m c ∗ Pipeline.scopedRest (cfg0.spec) c) ⊢ Before m c := by
  rw [scopedRest0_eq]
  unfold Enter Before
  iintro ⟨⟨%κ, %ι, HK, HN, HC, HA, HR⟩, HB⟩
  iexists κ; iexists ι
  isplitl [HK]; · iexact HK
  iapply (start_dev (m := m) (c := c) (m ((c : Thread nD τ).loc main_v1)))
  isplitl [HN]; · iexact HN
  isplitl [HC]; · iexact HC
  isplitl [HA]; · iexact HA
  isplitl [HR]; · iexact HR
  unfold Bufs
  iexact HB

/-- What the body ends with gives the scratch buffers and the semaphores back. -/
theorem after_elim (c : Dev nD) : After m c
    ⊢ iprop(Leave m c ∗ Pipeline.ownSems0 (Ix := ℕ) (Name := ℕ) (U := UU) (Lvl := ℕ) (Val := Elt F) (τ := τ) osem c ∗ Pipeline.scopedRest (cfg0.spec) c) := by
  rw [scopedRest0_eq]
  unfold After Leave
  rw [← sems_eq]
  iintro ⟨⟨HO, HU⟩, HB, HA, HR⟩
  isplitl [HU HA HR]
  · isplitl [HU]; · iexact HU
    isplitl [HA]
    · iexact HA
    · iexact HR
  isplitl [HO]; · iexact HO
  unfold Bufs
  iexact HB

/-- What a device's final memory is read as. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xv m c ∧ s.mem ((c : Thread nD τ).loc main_v1) = outF m c

/-- What a device takes out says what its final memory holds. -/
theorem leave_read (c : Dev nD) (s' : Phys nD τ sig (Elt F)) :
    iprop(Leave m c ∗ emp ∗ SI s') ⊢ iprop(|={Set.univ}=> (⌜QY m c s'.mem⌝ ∗ SI s')) := by
  unfold Leave ArgAt ResAt
  iintro ⟨⟨HU, HA, HR⟩, -, HSI⟩
  icombine HSI HA gives %ha
  icombine HSI HR gives %hr
  imod (Pipeline.unscopedSems0_read (X := unscopedSems0 c) (c := c) fupd_intro s') $$ [HU HSI] with ⟨%hu, HSI⟩
  · isplitl [HU]
    · iexact HU
    · iexact HSI
  imodintro
  isplitr
  · ipureintro; exact ⟨hu, Buf.eq_of_forall_mem_univ ha, Buf.eq_of_forall_mem_univ hr⟩
  · iexact HSI

end Cert.KernelIdeal
-- ==== Proof.Run.lean ====
/-
# The run

The launch theorem, applied.
-/
module

public import proofs.«01_k».proof.Proof.Launch

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable (m : (ℓ : Loc nD τ sig) → Buf (Elt F) ℓ) (ρ : Dev nD → PrngReg)

set_option maxRecDepth 8000 in
/-- From any memory with all semaphores at zero, every fair execution ends, with each device's argument unchanged, its
    result the computed one and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_v1) = outF m c) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := Odebt0) (howed₀ := fun _ => rfl) (howedN := fun _ => rfl)
    (L := L) (lv := lv) (hL := fun _ h => if_neg h) (hwaits := fun c => Pipeline.cellsWaits_intro cfgs (dats m) 0 0 c fun w => w.elim0)
    (G := Gseed) (G' := Dealt m) (u₀ := u₀)
    (hu₀ := resources)
    (hglob := deal_all m)
    (hA := fun _ w => w.elim0) (hpf := fun _ k => k.elim0)
    (X := Enter m) (Y := Leave m) (Z := fun _ => iprop(emp))
    (hX := enter_intro m ρ)
    (hin := fun c => (sep_mono_right (show iprop(_ ∗ Pipeline.scopedRest (cfg0.spec) c) ⊢ Pipeline.scopedRest (cfg0.spec) c from by
      iintro ⟨-, H⟩; iexact H)).trans (before_intro m c))
    (hout := after_elim m)
    (QY := QY m)
    (hY := leave_read m)
    (hQ := fun _ h hs => ⟨fun c => (h c).2.2.2, sem_eq_zero hs fun c => (h c).2.2.1⟩)

end Cert.KernelIdeal
-- ==== Proof.Values.lean ====
/-
# The values

Over exact numbers every device ends with the reference's result.
-/
module

public import proofs.«01_k».proof.Proof.Run
public import proofs.«01_k».proof.Proof.Gen.ReferenceIdeal.Run
public import Idealize.ShloMosaic.Lib.Pointwise

@[expose] public section

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ
local notation "𝒱₀" => (Variants.none : Variants)

variable (m : (ℓ : Loc nD τ sig) → Buf (Elt Ideal) ℓ)

/-- The whole array, as the reference is given it. -/
abbrev Big : Type := (⟨2, ![32768, 1024]⟩ : Shape).Idx → EReal
/-- Each device is given its block of the whole array: the block of its coordinate along x. -/
def Given (V : Big) : Prop :=
  ∀ c : Dev nD, xv m c = Layout.blockN ⟨2, ![16384, 1024]⟩ ⟨2, ![32768, 1024]⟩ (Layout.meshBlock [2, 4, 4] ![[0], []] c) V

/-- Where element `i` of block `b` lies in the whole array. -/
def bigIx (b : Fin 2) (i : S16384x1024.Idx) : (⟨2, ![32768, 1024]⟩ : Shape).Idx :=
  ix2 ⟨b.val * 16384 + (i 0).val, by have h : (i 0).val < 16384 := (i 0).isLt; have := b.isLt; omega⟩ ⟨(i 1).val, (i 1).isLt⟩

/-- The sum of the two blocks. -/
def total (V : Big) : S16384x1024.Idx → EReal := fun i => V (bigIx 0 i) + V (bigIx 1 i)

/-- A device's coordinate along x. -/
def xOf (c : Dev nD) : Fin 2 := ⟨c.val / 16, by have h : c.val < 32 := c.isLt; omega⟩
/-- The x-neighbour has the other coordinate along x. -/
theorem xOf_xp : ∀ c : Dev nD, xOf (xp c) = 1 - xOf c := by decide +kernel

/-- What a device is given, an element at a time. -/
theorem given_at {V : Big} (h : Given m V) (c : Dev nD) (i : S16384x1024.Idx) : xv m c i = V (bigIx (xOf c) i) := by
  rw [h c, Layout.blockN_apply]
  congr 1
  have h0 : Layout.meshLin [2, 4, 4] c.val [0] = c.val / 16 := by
    have hc : c.val < 32 := c.isLt
    show c.val / 16 % 2 * 1 + 0 = c.val / 16
    omega
  funext a
  apply Fin.ext
  rw [Layout.TilesN.idx_val]
  match a with
  | ⟨0, _⟩ =>
    show Layout.meshLin [2, 4, 4] c.val [0] * 16384 + (i 0).val = c.val / 16 * 16384 + (i 0).val
    rw [h0]
  | ⟨1, _⟩ =>
    show 0 * 1024 + (i 1).val = (i 1).val
    omega

/-- A device's sum along x is the sum of the two blocks. -/
theorem sumA_total {V : Big} (h : Given m V) (c : Dev nD) (i : S16384x1024.Idx) : sumA m c i = total V i := by
  show xv m c i + xv m (xp c) i = V (bigIx 0 i) + V (bigIx 1 i)
  rw [given_at m h, given_at m h, xOf_xp]
  generalize xOf c = b
  match b with
  | 0 => rfl
  | 1 => exact add_comm _ _

/-- Every device ends with the sum of the two blocks. -/
theorem outF_total {V : Big} (h : Given m V) (c : Dev nD) : outF m c = total V := by
  funext i
  unfold outF
  split <;> exact sumA_total m h _ i

/-- The reshaped array at block `b`. -/
theorem reshaped (V : Big) (h1 : (⟨2, ![32768, 1024]⟩ : Shape).ShapeCasts ⟨3, ![2, 16384, 1024]⟩) (b : Fin 2) (i : S16384x1024.Idx)
    {h0 : (i 0).val < 16384} {h0' : (i 1).val < 1024} :
    shapeCast (⟨3, ![2, 16384, 1024]⟩ : Shape) V h1 (ix3 b ⟨(i 0).val, h0⟩ ⟨(i 1).val, h0'⟩) = V (bigIx b i) := by
  show V (Shape.reshapeEquiv h1 _) = _
  congr 1
  refine Shape.reshapeEquiv_eq_of_vals h1 _ _ _ _ (rowMajor_val2 _ 1024 rfl) (rowMajor_val3 _ 16777216 1024 rfl rfl) ?_
  show (b.val * 16384 + (i 0).val) * 1024 + (i 1).val = b.val * 16777216 + (i 0).val * 1024 + (i 1).val
  omega

/-- The reference's result is that sum too. -/
theorem ref_total (V : Big) (h1 : (⟨2, ![32768, 1024]⟩ : Shape).ShapeCasts ⟨3, ![2, 16384, 1024]⟩)
    (h2 : (⟨3, ![2, 16384, 1024]⟩ : Shape).ReducesTo [0] S16384x1024) (h3 : 0 < (⟨0, ![]⟩ : Shape).numel) :
    Host.reduceAdd (F := Ideal) (φ := .f32) (shapeCast (⟨3, ![2, 16384, 1024]⟩ : Shape) V h1) (constant (⟨0, ![]⟩ : Shape) .f32 0x00000000#32) h2 h3 = total V := by
  funext i
  rw [Host.reduceAdd_apply, Ideal.hostReduceAdd_def, Ideal.hostReduceAdd_r3_a0, Fin.sum_univ_two]
  have h0 : constant (F := Ideal) (⟨0, ![]⟩ : Shape) .f32 0x00000000#32 (Shape.Idx.first h3) = (0 : EReal) := Ideal.ofBits_zero_f32
  exact (congrArg₂ (fun a b : EReal => a + b) h0 (congrArg₂ (fun a b : EReal => a + b) (reshaped V h1 0 i) (reshaped V h1 1 i))).trans (zero_add _)

end Cert.KernelIdeal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The kernel runs from any memory to its end, arguments unchanged and semaphores at zero. -/
theorem frame_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0) :=
  (θ_run Cert.KernelIdeal.defs _ _).mono (fun _ h => ⟨fun c => (h.1 c).1, h.2⟩) (Cert.KernelIdeal.run_main (F := Bits) m g)

/-- The same of its reading over exact numbers. -/
theorem frame_ideal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.run_main (F := Ideal) m g)

/-- The reference, which has no semaphores, runs to its end with its argument unchanged. -/
theorem frame_ref : Cert.quiescent_ReferenceIdeal (hReferenceIdeal := Cert.ReferenceIdeal.Gen.facts) := fun m g _ =>
  (θ_run Cert.ReferenceIdeal.defs _ _).mono (fun _ h => ⟨fun c => (h c).2, sem_eq_zero_of_no_sems (by decide) _⟩) (Cert.ReferenceIdeal.Value.run (F := Ideal) m g)

/-- Both end with the sum of the two blocks. -/
theorem values : Cert.algebraic_KernelIdeal_ReferenceIdeal (hKernelIdeal := Cert.KernelIdeal.Gen.facts) (hReferenceIdeal := Cert.ReferenceIdeal.Gen.facts) :=
  fun m g m' g' _ hx => by
    have hg : Cert.KernelIdeal.Given m (m' (((0 : Dev Cert.ReferenceIdeal.nD).tc : Thread Cert.ReferenceIdeal.nD Cert.ReferenceIdeal.τ).loc Cert.ReferenceIdeal.main_arg0)) := hx
    exact ⟨Cert.KernelIdeal.total (m' (((0 : Dev Cert.ReferenceIdeal.nD).tc : Thread Cert.ReferenceIdeal.nD Cert.ReferenceIdeal.τ).loc Cert.ReferenceIdeal.main_arg0)),
      (θ_run Cert.KernelIdeal.defs _ _).mono (fun _ h c => ⟨(h.1 c).2.trans (Cert.KernelIdeal.outF_total m hg c), (h.1 c).1⟩)
        (Cert.KernelIdeal.run_main (F := Ideal) m g),
      (θ_run Cert.ReferenceIdeal.defs _ _).mono (fun _ h => ⟨(h 0).1.trans (Cert.KernelIdeal.ref_total _ _ _ _), (h 0).2⟩)
        (Cert.ReferenceIdeal.Value.run (F := Ideal) m' g')⟩

/-- All the claims. -/
theorem claim : Cert.Claim :=
  ⟨Cert.Kernel.Gen.facts, Cert.KernelIdeal.Gen.facts, Cert.ReferenceIdeal.Gen.facts,
    fun m g _ => frame_kernel m g, frame_ideal, frame_ref, trivial, values⟩

end Cert.Proof

end
